-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024x384 : Shape := ⟨3, ![64, 1024, 384]⟩
abbrev S384x32 : Shape := ⟨2, ![384, 32]⟩
abbrev S32 : Shape := ⟨1, ![32]⟩
abbrev S8192x32 : Shape := ⟨2, ![8192, 32]⟩
abbrev S65536x384 : Shape := ⟨2, ![65536, 384]⟩
abbrev S1x32 : Shape := ⟨2, ![1, 32]⟩
abbrev S32x8192 : Shape := ⟨2, ![32, 8192]⟩
abbrev S_ : Shape := ⟨0, ![]⟩
abbrev S8192 : Shape := ⟨1, ![8192]⟩
abbrev S1x8192 : Shape := ⟨2, ![1, 8192]⟩
abbrev S65536x32 : Shape := ⟨2, ![65536, 32]⟩
abbrev S65536 : Shape := ⟨1, ![65536]⟩
abbrev S1x1 : Shape := ⟨2, ![1, 1]⟩
abbrev S64x1024x32 : Shape := ⟨3, ![64, 1024, 32]⟩
abbrev S64x1024 : Shape := ⟨2, ![64, 1024]⟩
abbrev S256x384 : Shape := ⟨2, ![256, 384]⟩
abbrev S256x32 : Shape := ⟨2, ![256, 32]⟩
abbrev S256 : Shape := ⟨1, ![256]⟩
abbrev S256x1 : Shape := ⟨2, ![256, 1]⟩
abbrev S256x8192 : Shape := ⟨2, ![256, 8192]⟩
abbrev S256x4096 : Shape := ⟨2, ![256, 4096]⟩
abbrev S1x256x32 : Shape := ⟨3, ![1, 256, 32]⟩
abbrev S1 : Shape := ⟨1, ![1]⟩
abbrev S1x1x1 : Shape := ⟨3, ![1, 1, 1]⟩

abbrev nBuf : Space → Nat
  | .hbm => 25
  | .vmem => 14
  | .smem => 0
  | _ => 0

abbrev bufTy : (tb : Table) → Fin (tcTables nBuf tb) → BufTy
  | .hbm, ⟨0, _⟩ => ⟨S64x1024x384, .f32⟩
  | .hbm, ⟨1, _⟩ => ⟨S384x32, .f32⟩
  | .hbm, ⟨2, _⟩ => ⟨S32, .f32⟩
  | .hbm, ⟨3, _⟩ => ⟨S8192x32, .f32⟩
  | .hbm, ⟨4, _⟩ => ⟨S65536x384, .f32⟩
  | .hbm, ⟨5, _⟩ => ⟨S1x32, .f32⟩
  | .hbm, ⟨6, _⟩ => ⟨S32x8192, .f32⟩
  | .hbm, ⟨7, _⟩ => ⟨S32x8192, .bf16⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S65536x32, .f32⟩
  | .hbm, ⟨13, _⟩ => ⟨S65536, .i32⟩
  | .hbm, ⟨14, _⟩ => ⟨S65536x32, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64x1024x32, .f32⟩
  | .hbm, ⟨23, _⟩ => ⟨S64x1024x32, .f32⟩
  | .hbm, ⟨24, _⟩ => ⟨S64x1024, .i32⟩
  | .local _ .vmem, ⟨0, _⟩ => ⟨S256x384, .f32⟩
  | .local _ .vmem, ⟨1, _⟩ => ⟨S256x384, .f32⟩
  | .local _ .vmem, ⟨2, _⟩ => ⟨S384x32, .f32⟩
  | .local _ .vmem, ⟨3, _⟩ => ⟨S1x32, .f32⟩
  | .local _ .vmem, ⟨4, _⟩ => ⟨S32x8192, .bf16⟩
  | .local _ .vmem, ⟨5, _⟩ => ⟨S8192x32, .f32⟩
  | .local _ .vmem, ⟨6, _⟩ => ⟨S1x8192, .f32⟩
  | .local _ .vmem, ⟨7, _⟩ => ⟨S256x32, .f32⟩
  | .local _ .vmem, ⟨8, _⟩ => ⟨S256x32, .f32⟩
  | .local _ .vmem, ⟨9, _⟩ => ⟨S256, .i32⟩
  | .local _ .vmem, ⟨10, _⟩ => ⟨S256, .i32⟩
  | .local _ .vmem, ⟨11, _⟩ => ⟨S256x32, .f32⟩
  | .local _ .vmem, ⟨12, _⟩ => ⟨S256x32, .f32⟩
  | .local _ .vmem, ⟨13, _⟩ => ⟨S1x1, .f32⟩
  | _, _ => ⟨S64x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_v7_0 : Ref sig .tc := ⟨.hbm, 12, rfl⟩
abbrev main_call0_v7_1 : Ref sig .tc := ⟨.hbm, 13, rfl⟩
abbrev main_call0_v7_2 : Ref sig .tc := ⟨.hbm, 14, rfl⟩
abbrev main_call0_v7_3 : Ref sig .tc := ⟨.hbm, 15, rfl⟩
abbrev main_call0_v8 : Ref sig .tc := ⟨.hbm, 16, rfl⟩
abbrev main_call0_cst_0 : Ref sig .tc := ⟨.hbm, 17, rfl⟩
abbrev main_call0_v9 : Ref sig .tc := ⟨.hbm, 18, rfl⟩
abbrev main_call0_cst_1 : Ref sig .tc := ⟨.hbm, 19, rfl⟩
abbrev main_call0_v10 : Ref sig .tc := ⟨.hbm, 20, rfl⟩
abbrev main_v0_1 : Ref sig .tc := ⟨.hbm, 21, rfl⟩
abbrev main_v0_0 : Ref sig .tc := ⟨.hbm, 22, rfl⟩
abbrev main_v0_3 : Ref sig .tc := ⟨.hbm, 23, rfl⟩
abbrev main_v0_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S64x1024x384 : Shape := ⟨3, ![64, 1024, 384]⟩
abbrev S384x32 : Shape := ⟨2, ![384, 32]⟩
abbrev S32 : Shape := ⟨1, ![32]⟩
abbrev S8192x32 : Shape := ⟨2, ![8192, 32]⟩
abbrev S64x1024x32 : Shape := ⟨3, ![64, 1024, 32]⟩
abbrev S1x1x32 : Shape := ⟨3, ![1, 1, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S32x8192 : Shape := ⟨2, ![32, 8192]⟩
abbrev S65536x8192 : Shape := ⟨2, ![65536, 8192]⟩
abbrev S8192 : Shape := ⟨1, ![8192]⟩
abbrev S1x8192 : Shape := ⟨2, ![1, 8192]⟩
abbrev S64x1024 : Shape := ⟨2, ![64, 1024]⟩

abbrev nBuf : Space → Nat
  | .hbm => 57
  | .vmem => 0
  | .smem => 0
  | _ => 0

abbrev bufTy : (tb : Table) → Fin (tcTables nBuf tb) → BufTy
  | .hbm, ⟨0, _⟩ => ⟨S64x1024x384, .f32⟩
  | .hbm, ⟨1, _⟩ => ⟨S384x32, .f32⟩
  | .hbm, ⟨2, _⟩ => ⟨S32, .f32⟩
  | .hbm, ⟨3, _⟩ => ⟨S8192x32, .f32⟩
  | .hbm, ⟨4, _⟩ => ⟨S64x1024x32, .f32⟩
  | .hbm, ⟨5, _⟩ => ⟨S1x1x32, .f32⟩
  | .hbm, ⟨6, _⟩ => ⟨S64x1024x32, .f32⟩
  | .hbm, ⟨7, _⟩ => ⟨S64x1024x32, .f32⟩
  | .hbm, ⟨8, _⟩ => ⟨S65536x32, .f32⟩
  | .hbm, ⟨9, _⟩ => ⟨S65536x32, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S32x8192, .f32⟩
  | .hbm, ⟨14, _⟩ => ⟨S65536x8192, .f32⟩
  | .hbm, ⟨15, _⟩ => ⟨S_, .f32⟩
  | .hbm, ⟨16, _⟩ => ⟨S65536x8192, .f32⟩
  | .hbm, ⟨17, _⟩ => ⟨S65536x8192, .f32⟩
  | .hbm, ⟨18, _⟩ => ⟨S65536x8192, .f32⟩
  | .hbm, ⟨19, _⟩ => ⟨S65536x8192, .f32⟩
  | .hbm, ⟨20, _⟩ => ⟨S8192x32, .f32⟩
  | .hbm, ⟨21, _⟩ => ⟨S_, .f32⟩
  | .hbm, ⟨22, _⟩ => ⟨S8192, .f32⟩
  | .hbm, ⟨23, _⟩ => ⟨S1x8192, .f32⟩
  | .hbm, ⟨24, _⟩ => ⟨S65536x8192, .f32⟩
  | .hbm, ⟨25, _⟩ => ⟨S65536x8192, .f32⟩
  | .hbm, ⟨26, _⟩ => ⟨S65536x8192, .i32⟩
  | .hbm, ⟨27, _⟩ => ⟨S_, .f32⟩
  | .hbm, ⟨28, _⟩ => ⟨S_, .i32⟩
  | .hbm, ⟨29, _⟩ => ⟨S65536, .f32⟩
  | .hbm, ⟨30, _⟩ => ⟨S65536, .i32⟩
  | .hbm, ⟨31, _⟩ => ⟨S65536x1, .i32⟩
  | .hbm, ⟨32, _⟩ => ⟨S1x8192, .i32⟩
  | .hbm, ⟨33, _⟩ => ⟨S65536x8192, .i32⟩
  | .hbm, ⟨34, _⟩ => ⟨S65536x8192, .i32⟩
  | .hbm, ⟨35, _⟩ => ⟨S65536x8192, .i1⟩
  | .hbm, ⟨36, _⟩ => ⟨S65536x8192, .f32⟩
  | .hbm, ⟨37, _⟩ => ⟨S65536x32, .f32⟩
  | .hbm, ⟨38, _⟩ => ⟨S64x1024x32, .f32⟩
  | .hbm, ⟨39, _⟩ => ⟨S64x1024x32, .f32⟩
  | .hbm, ⟨40, _⟩ => ⟨S64x1024x32, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64x1024x32, .f32⟩
  | .hbm, ⟨46, _⟩ => ⟨S64x1024x32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S64x1024x32, .f32⟩
  | .hbm, ⟨55, _⟩ => ⟨S64x1024x32, .f32⟩
  | .hbm, ⟨56, _⟩ => ⟨S64x1024, .i32⟩
  | _, _ => ⟨S64x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v19 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Proof.FirstMin.lean ====
/-
  The first place at which a row of extended reals is least: it exists, it is unique, and three ways of computing it agree —
  the least place among the places holding the minimum, the two halves of the row compared, and a left fold over
  (value, index) pairs that prefers the smaller value and then the smaller index.
-/
module

public import Idealize.ShloMosaic.Lib.Pointwise
public import Mathlib.Data.Finset.Fold

@[expose] public section

set_option maxRecDepth 16384

noncomputable section

namespace Cert.Proof

open Idealize.ShloMosaic

/-- `k` is the first place at which `d` is least. -/
def FirstMin {n : ℕ} (d : Fin n → EReal) (k : Fin n) : Prop := (∀ j, d k ≤ d j) ∧ ∀ j, j < k → d k < d j

theorem FirstMin.unique {n : ℕ} {d : Fin n → EReal} {k k' : Fin n} (h : FirstMin d k) (h' : FirstMin d k') : k = k' := by
  rcases lt_trichotomy k k' with hlt | heq | hgt
  · exact absurd (h'.2 k hlt) (not_lt.2 (h.1 k'))
  · exact heq
  · exact absurd (h.2 k' hgt) (not_lt.2 (h'.1 k))

theorem exists_firstMin {n : ℕ} [NeZero n] (d : Fin n → EReal) : ∃ k, FirstMin d k := by
  classical
  obtain ⟨k0, -, h0⟩ := Finset.exists_min_image Finset.univ d ⟨0, Finset.mem_univ _⟩
  let S := Finset.univ.filter fun k => ∀ j, d k ≤ d j
  have hS : S.Nonempty := ⟨k0, Finset.mem_filter.2 ⟨Finset.mem_univ _, fun j => h0 j (Finset.mem_univ _)⟩⟩
  have hk := (Finset.mem_filter.1 (S.min'_mem hS)).2
  refine ⟨S.min' hS, hk, fun j hj => lt_of_not_ge fun hle => ?_⟩
  have hjS : j ∈ S := Finset.mem_filter.2 ⟨Finset.mem_univ _, fun i => le_trans hle (hk i)⟩
  exact absurd (S.min'_le j hjS) (not_le.2 hj)

/-- The first place at which `d` is least. -/
def firstMin {n : ℕ} [NeZero n] (d : Fin n → EReal) : Fin n := Classical.choose (exists_firstMin d)

theorem firstMin_spec {n : ℕ} [NeZero n] (d : Fin n → EReal) : FirstMin d (firstMin d) := Classical.choose_spec (exists_firstMin d)

theorem FirstMin.eq_firstMin {n : ℕ} [NeZero n] {d : Fin n → EReal} {k : Fin n} (h : FirstMin d k) : firstMin d = k :=
  (firstMin_spec d).unique h

/-- The minimum of a row, from the top, is its value at the first minimiser. -/
theorem FirstMin.fold_min {n : ℕ} {d : Fin n → EReal} {k : Fin n} (h : FirstMin d k) :
    Finset.univ.fold min (⊤ : EReal) d = d k :=
  le_antisymm ((Finset.fold_min_le _).2 (Or.inr ⟨k, Finset.mem_univ _, le_rfl⟩))
    ((Finset.le_fold_min _).2 ⟨le_top, fun j _ => h.1 j⟩)

theorem toInt_word {m : ℕ} (h : m ≤ 8192) : (BitVec.ofNat 32 m).toInt = (m : ℤ) := by
  rw [BitVec.toInt_eq_toNat_of_lt (by rw [BitVec.toNat_ofNat]; omega), BitVec.toNat_ofNat, Nat.mod_eq_of_lt (by omega)]

theorem toInt_min (a b : BitVec 32) : (IntOp.minsi a b).toInt = min a.toInt b.toInt := by
  unfold IntOp.minsi
  by_cases h : a.toInt < b.toInt
  · rw [show a.slt b = true from decide_eq_true h, if_pos rfl, min_eq_left h.le]
  · rw [show a.slt b = false from decide_eq_false h, if_neg Bool.false_ne_true, min_eq_right (not_lt.1 h)]

/-- The least of the words of the places that hold the minimum (8192 at the others) is the word of the first minimiser. -/
theorem FirstMin.fold_word {n : ℕ} (off : ℕ) (hn : off + n ≤ 8192) {d : Fin n → EReal} {k : Fin n} (h : FirstMin d k)
    [Std.Commutative (IntOp.minsi (w := 32))] [Std.Associative (IntOp.minsi (w := 32))] :
    Finset.univ.fold IntOp.minsi 2147483647#32
      (fun j : Fin n => if d j = d k then BitVec.ofNat 32 (off + j.val) else 8192#32) = BitVec.ofNat 32 (off + k.val) := by
  have hk := k.isLt
  apply BitVec.eq_of_toInt_eq
  rw [← Finset.fold_hom (m := BitVec.toInt) (op' := min) toInt_min]
  apply le_antisymm
  · refine (Finset.fold_min_le _).2 (Or.inr ⟨k, Finset.mem_univ _, ?_⟩)
    rw [if_pos rfl]
  · refine (Finset.le_fold_min _).2 ⟨?_, fun j _ => ?_⟩
    · rw [toInt_word (by omega)]
      show _ ≤ (2147483647 : ℤ)
      omega
    · have hj := j.isLt
      rw [toInt_word (by omega)]
      split_ifs with hd
      · have : k ≤ j := not_lt.1 fun hlt => absurd (h.2 j hlt) (by rw [hd]; exact lt_irrefl _)
        rw [toInt_word (by omega)]
        have : k.val ≤ j.val := this
        omega
      · show _ ≤ (8192 : ℤ)
        omega

/-- The first minimiser of a row from its two halves': the upper half's where its minimum is strictly the smaller. -/
theorem firstMin_halves (d : Fin 8192 → EReal) {k₁ k₂ : Fin 4096}
    (h₁ : FirstMin (fun j : Fin 4096 => d ⟨j.val, by omega⟩) k₁) (h₂ : FirstMin (fun j : Fin 4096 => d ⟨4096 + j.val, by omega⟩) k₂) :
    (firstMin d).val = if d ⟨4096 + k₂.val, by omega⟩ < d ⟨k₁.val, by omega⟩ then 4096 + k₂.val else k₁.val := by
  have lo : ∀ j : Fin 8192, j.val < 4096 → d ⟨k₁.val, by omega⟩ ≤ d j := fun j hj => h₁.1 ⟨j.val, hj⟩
  have hi : ∀ j : Fin 8192, ¬ j.val < 4096 → d ⟨4096 + k₂.val, by omega⟩ ≤ d j := fun j hj => by
    have := h₂.1 ⟨j.val - 4096, by omega⟩
    have e : (⟨4096 + (j.val - 4096), by omega⟩ : Fin 8192) = j := Fin.ext (by show 4096 + (j.val - 4096) = j.val; omega)
    simpa only [e] using this
  split_ifs with hlt
  · refine congrArg Fin.val (FirstMin.eq_firstMin (k := ⟨4096 + k₂.val, by omega⟩) ⟨fun j => ?_, fun j hj => ?_⟩)
    · by_cases hj : j.val < 4096
      · exact hlt.le.trans (lo j hj)
      · exact hi j hj
    · by_cases hj' : j.val < 4096
      · exact lt_of_lt_of_le hlt (lo j hj')
      · have hjk : j.val < 4096 + k₂.val := hj
        have := h₂.2 ⟨j.val - 4096, by omega⟩ (by show j.val - 4096 < k₂.val; omega)
        have e : (⟨4096 + (j.val - 4096), by omega⟩ : Fin 8192) = j := Fin.ext (by show 4096 + (j.val - 4096) = j.val; omega)
        simpa only [e] using this
  · refine congrArg Fin.val (FirstMin.eq_firstMin (k := ⟨k₁.val, by omega⟩) ⟨fun j => ?_, fun j hj => ?_⟩)
    · by_cases hj : j.val < 4096
      · exact lo j hj
      · exact (not_lt.1 hlt).trans (hi j hj)
    · have hjk : j.val < k₁.val := hj
      exact h₁.2 ⟨j.val, by omega⟩ hjk

/-- The two halves searched one by one and compared: the word of the whole row's first minimiser. -/
theorem pick_halves (d : Fin 8192 → EReal)
    [Std.Commutative (IntOp.minsi (w := 32))] [Std.Associative (IntOp.minsi (w := 32))] :
    (if Finset.univ.fold min (⊤ : EReal) (fun j : Fin 4096 => d ⟨4096 + j.val, by omega⟩)
        < Finset.univ.fold min (⊤ : EReal) (fun j : Fin 4096 => d ⟨j.val, by omega⟩) then
      Finset.univ.fold IntOp.minsi 2147483647#32 (fun j : Fin 4096 =>
        if d ⟨4096 + j.val, by omega⟩ = Finset.univ.fold min (⊤ : EReal) (fun j : Fin 4096 => d ⟨4096 + j.val, by omega⟩)
        then BitVec.ofNat 32 (4096 + j.val) else 8192#32)
     else
      Finset.univ.fold IntOp.minsi 2147483647#32 (fun j : Fin 4096 =>
        if d ⟨j.val, by omega⟩ = Finset.univ.fold min (⊤ : EReal) (fun j : Fin 4096 => d ⟨j.val, by omega⟩)
        then BitVec.ofNat 32 j.val else 8192#32))
      = BitVec.ofNat 32 (firstMin d).val := by
  obtain ⟨k₁, h₁⟩ := exists_firstMin (fun j : Fin 4096 => d ⟨j.val, by omega⟩)
  obtain ⟨k₂, h₂⟩ := exists_firstMin (fun j : Fin 4096 => d ⟨4096 + j.val, by omega⟩)
  have w₁ := h₁.fold_word 0 (by omega)
  have w₂ := h₂.fold_word 4096 (by omega)
  simp only [Nat.zero_add] at w₁
  rw [h₁.fold_min, h₂.fold_min, firstMin_halves d h₁ h₂, w₁, w₂]
  split_ifs <;> rfl

/-- A left fold over (value, index) pairs in order, from (top, 0), whose step prefers the smaller value and then the smaller
    index, ends at the first minimiser. -/
theorem foldl_pick (f : EReal × BitVec 32 → EReal × BitVec 32 → EReal × BitVec 32)
    (hf : ∀ a b, f a b = (if a.1 < b.1 then a.1 else b.1, if a.1 < b.1 ∨ (a.1 = b.1 ∧ a.2.toInt < b.2.toInt) then a.2 else b.2))
    (n : ℕ) (hn : n < 8192) (d : Fin (n + 1) → EReal) :
    ∃ k, FirstMin d k ∧ ((List.finRange (n + 1)).map fun j => (d j, BitVec.ofNat 32 j.val)).foldl f (⊤, 0#32)
      = (d k, BitVec.ofNat 32 k.val) := by
  induction n with
  | zero =>
    refine ⟨0, ⟨fun j => le_of_eq (congrArg d (Fin.ext (by have := j.isLt; show (0 : ℕ) = j.val; omega))), fun j hj => absurd hj (Fin.not_lt_zero j)⟩, ?_⟩
    have e : (List.finRange (0 + 1)).map (fun j : Fin (0 + 1) => (d j, BitVec.ofNat 32 j.val)) = [(d 0, 0#32)] := rfl
    rw [e, List.foldl_cons, List.foldl_nil, hf]
    have h : ¬ (⊤ : EReal) < d 0 := not_lt.2 le_top
    simp only [if_neg h]
    refine congrArg (Prod.mk _) ?_
    split_ifs <;> rfl
  | succ n ih =>
    obtain ⟨k, hk, e⟩ := ih (by omega) fun j => d j.castSucc
    have e' : ((List.finRange (n + 1 + 1)).map fun j => (d j, BitVec.ofNat 32 j.val)).foldl f (⊤, 0#32)
        = f (d k.castSucc, BitVec.ofNat 32 k.val) (d (Fin.last _), BitVec.ofNat 32 (n + 1)) := by
      rw [List.finRange_succ_last, List.map_append, List.foldl_append, List.map_map]
      exact congrArg (fun a => f a (d (Fin.last _), BitVec.ofNat 32 (n + 1))) e
    have hkn := k.isLt
    have hw : (BitVec.ofNat 32 k.val).toInt < (BitVec.ofNat 32 (n + 1)).toInt := by
      rw [toInt_word (by omega), toInt_word (by omega)]; omega
    rw [e', hf]
    by_cases hle : d k.castSucc ≤ d (Fin.last _)
    · refine ⟨k.castSucc, ⟨fun j => ?_, fun j hj => ?_⟩, ?_⟩
      · induction j using Fin.lastCases with
        | last => exact hle
        | cast j => exact hk.1 j
      · induction j using Fin.lastCases with
        | last => exact absurd hj (not_lt.2 (Fin.le_last _))
        | cast j => exact hk.2 j hj
      · have hc : d k.castSucc < d (Fin.last _) ∨ (d k.castSucc = d (Fin.last _) ∧ (BitVec.ofNat 32 k.val).toInt < (BitVec.ofNat 32 (n + 1)).toInt) :=
          (lt_or_eq_of_le hle).imp_right fun h => ⟨h, hw⟩
        simp only [if_pos hc]
        refine Prod.ext ?_ rfl
        show (if _ then _ else _) = _
        split_ifs with h
        · rfl
        · exact (le_antisymm hle (not_lt.1 h)).symm
    · have hlt : d (Fin.last _) < d k.castSucc := not_le.1 hle
      refine ⟨Fin.last _, ⟨fun j => ?_, fun j hj => ?_⟩, ?_⟩
      · induction j using Fin.lastCases with
        | last => exact le_rfl
        | cast j => exact hlt.le.trans (hk.1 j)
      · induction j using Fin.lastCases with
        | last => exact absurd hj (lt_irrefl _)
        | cast j => exact lt_of_lt_of_le hlt (hk.1 j)
      · have h1 : ¬ d k.castSucc < d (Fin.last _) := not_lt.2 hlt.le
        have h2 : ¬ (d k.castSucc < d (Fin.last _) ∨ (d k.castSucc = d (Fin.last _) ∧ (BitVec.ofNat 32 k.val).toInt < (BitVec.ofNat 32 (n + 1)).toInt)) :=
          fun h => h.elim h1 fun h => absurd h.1 hlt.ne'
        simp only [if_neg h1, if_neg h2]
        rfl

end Cert.Proof
end
-- ==== Proof.Spec.lean ====
/-
  What both programs compute, one token at a time, over extended reals: the encoder's output, its squared distance to every
  codebook row, the nearest row's index, the row picked, and the squared error.
-/
module

public import proofs.«01_k».proof.Proof.FirstMin

@[expose] public section

set_option maxRecDepth 16384

noncomputable section

namespace Cert.Proof

open Idealize.ShloMosaic

/-- A token's encoder output. -/
def rowZ (x : Fin 384 → EReal) (W : Fin 384 → Fin 32 → EReal) (b : Fin 32 → EReal) (c : Fin 32) : EReal :=
  ∑ k, x k * W k c + b c

/-- The squared distance from `z` to codebook row `j`. -/
def rowD (z : Fin 32 → EReal) (E : Fin 8192 → Fin 32 → EReal) (j : Fin 8192) : EReal :=
  ∑ c, z c * z c - Ideal.ofBits FTy.f32 1073741824#32 * ∑ c, z c * E j c + ∑ c, E j c * E j c

/-- The word of the nearest row's index, the first of the nearest. -/
def rowI (z : Fin 32 → EReal) (E : Fin 8192 → Fin 32 → EReal) : BitVec 32 := BitVec.ofNat 32 (firstMin (rowD z E)).val

/-- One where the words agree, zero elsewhere. -/
def hot (a b : BitVec 32) : EReal := if a = b then 1 else 0

/-- The codebook row picked, as the one-hot row times the codebook. -/
def rowQ (z : Fin 32 → EReal) (E : Fin 8192 → Fin 32 → EReal) (c : Fin 32) : EReal :=
  ∑ j : Fin 8192, hot (BitVec.ofNat 32 j.val) (rowI z E) * E j c

/-- The row picked, as the straight-through estimator returns it. -/
def rowS (z : Fin 32 → EReal) (E : Fin 8192 → Fin 32 → EReal) (c : Fin 32) : EReal := z c + (rowQ z E c - z c)

/-- A token's squared error. -/
def rowErr (z : Fin 32 → EReal) (E : Fin 8192 → Fin 32 → EReal) : EReal :=
  ∑ c, (rowQ z E c - z c) * (rowQ z E c - z c)

/-- The signed conversion of a one-bit comparison, widened. -/
theorem hot_signed (a b : BitVec 32) :
    (FloatOps.sitofp FTy.f32 (BitVec.setWidth 32 (IntOp.cmpi CmpIPredicate.eq a b)) : Ideal FTy.f32) = hot a b := by
  unfold hot
  by_cases h : a = b
  · simp [IntOp.cmpi, h, FloatOps.sitofp]
  · simp [IntOp.cmpi, h, beq_eq_false_iff_ne.2 h, FloatOps.sitofp]

/-- The unsigned conversion of a one-bit comparison, the words the other way round. -/
theorem hot_unsigned (a b : BitVec 32) :
    (FloatOps.uitofp FTy.f32 (IntOp.cmpi CmpIPredicate.eq a b) : Ideal FTy.f32) = hot b a := by
  unfold hot
  by_cases h : a = b
  · simp [IntOp.cmpi, h, FloatOps.uitofp]
  · simp [IntOp.cmpi, h, Ne.symm h, FloatOps.uitofp]

/-- The square of a difference does not depend on its order, at the infinities either. -/
theorem sub_sq_comm (a b : EReal) : (a - b) * (a - b) = (b - a) * (b - a) := by
  induction a using EReal.rec <;> induction b using EReal.rec
  all_goals first
    | rfl
    | (norm_cast; ring_nf)
    | simp

end Cert.Proof
end
-- ==== Proof.Entry.lean ====
/-
  What the kernel's region finds in each operand the host prepares, at an index.
-/
module

public import proofs.«01_k».proof.Proof.Gen.KernelIdeal.Frame
public import proofs.«01_k».proof.Proof.Spec
public import Idealize.ShloMosaic.Lib.Pipeline.ValueKit
public import Idealize.ShloMosaic.Lib.Claim

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

theorem V_v0 : V m c main_call0_v0
    = shapeCast S65536x384 (m ((c : Thread nD τ).loc main_arg0)) shapeCasts_S64x1024x384_S65536x384 := by
  entry_read
  rfl

theorem V_v1 : V m c main_call0_v1 = shapeCast S1x32 (m ((c : Thread nD τ).loc main_arg2)) shapeCasts_S32_S1x32 := by
  entry_read
  rfl

theorem V_v3 : V m c main_call0_v3
    = truncf .bf16 (transpose S32x8192 [1, 0] (m ((c : Thread nD τ).loc main_arg3)) transposes_S8192x32_S32x8192_1_0 : FVec Ideal S32x8192 .f32) bitsLt_bf16_f32 := by
  entry_read
  rfl

theorem V_v6 : V m c main_call0_v6
    = shapeCast S1x8192 (Host.reduceAdd (mulf (m ((c : Thread nD τ).loc main_arg3)) (m ((c : Thread nD τ).loc main_arg3)) : FVec Ideal S8192x32 .f32)
        (constant S_ .f32 0x00000000#32) reducesTo_S8192x32_S8192_d1 h_S_) shapeCasts_S8192_S1x8192 := by
  entry_read
  rfl

/-- The arrays the program is called with. -/
abbrev lat : FVec Ideal S64x1024x384 .f32 := m ((c : Thread nD τ).loc main_arg0)
abbrev wgt : FVec Ideal S384x32 .f32 := m ((c : Thread nD τ).loc main_arg1)
abbrev bias : FVec Ideal S32 .f32 := m ((c : Thread nD τ).loc main_arg2)
abbrev emb : FVec Ideal S8192x32 .f32 := m ((c : Thread nD τ).loc main_arg3)

theorem cast_lat (X : FVec Ideal S64x1024x384 .f32) (n : Fin 65536) (k : Fin 384) :
    shapeCast S65536x384 X shapeCasts_S64x1024x384_S65536x384 (ix2 n k) = X (ix3 ⟨n.val / 1024, by omega⟩ ⟨n.val % 1024, by omega⟩ k) := by
  pointwise []

theorem lat_apply (n : Fin 65536) (k : Fin 384) : (V m c main_call0_v0 : FVec Ideal S65536x384 .f32) (ix2 n k)
    = lat m c (ix3 ⟨n.val / 1024, by omega⟩ ⟨n.val % 1024, by omega⟩ k) := by
  rw [V_v0]
  exact cast_lat _ n k

theorem bias_apply (c' : Fin 32) : (V m c main_call0_v1 : FVec Ideal S1x32 .f32) (ix2 0 c') = bias m c (ix1 c') := by
  rw [V_v1]
  pointwise []

theorem embT_apply (k : Fin 32) (j : Fin 8192) : (V m c main_call0_v3 : FVec Ideal S32x8192 .bf16) (ix2 k j) = emb m c (ix2 j k) := by
  rw [V_v3]
  pointwise []

theorem norms_apply (j : Fin 8192) : (V m c main_call0_v6 : FVec Ideal S1x8192 .f32) (ix2 0 j)
    = ∑ k : Fin 32, emb m c (ix2 j k) * emb m c (ix2 j k) := by
  rw [V_v6]
  pointwise []

end Cert.Proof.Ker
end
-- ==== Proof.Block.lean ====
/-
  What one grid point computes from the blocks it reads: each stored value at an index is the row function of `Spec` over that row's token.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof.Block

open Idealize.ShloMosaic Idealize.ShloMosaic.TcCoe Idealize.SL.Sem
open Cert.KernelIdeal Cert.KernelIdeal.Gen

theorem top_word : Ideal.ofBits FTy.f32 2139095040#32 = (⊤ : EReal) := by simp [Ideal.ofBits, Ideal.ieee]

section
variable (x : Vec Ideal S256x384 .f32) (w : Vec Ideal S384x32 .f32) (b : Vec Ideal S1x32 .f32)
  (e : Vec Ideal S32x8192 .bf16) (E : Vec Ideal S8192x32 .f32) (s : Vec Ideal S1x8192 .f32)

/-- Row r's encoder output. -/
def zRow (r : Fin 256) : Fin 32 → EReal := rowZ (fun k => x (ix2 r k)) (fun k c => w (ix2 k c)) (fun c => b (ix2 0 c))
/-- The codebook by row and column. -/
def eRow : Fin 8192 → Fin 32 → EReal := fun j c => E (ix2 j c)

theorem pay6_apply (r : Fin 256) (c : Fin 32) : k0_pay6 x w b (ix2 r c) = zRow x w b r c := by
  pointwise [k0_pay6, zRow, rowZ]

/-- The transposed codebook and the codebook's squared row norms, as the launch hands them over. -/
def Coded : Prop := (∀ k j, e (ix2 k j) = E (ix2 j k)) ∧ ∀ j, s (ix2 0 j) = ∑ c : Fin 32, E (ix2 j c) * E (ix2 j c)

variable {e E s}

theorem pay7_apply (h : Coded e E s) (r : Fin 256) (j : Fin 8192) :
    k0_pay7 x w b e s (ix2 r j) = rowD (zRow x w b r) (eRow E) j := by
  pointwise [k0_pay7]
  simp only [pay6_apply, h.1, h.2]
  rfl

theorem pay10_apply (h : Coded e E s) (r : Fin 256) :
    k0_pay10 x w b e s (ix2 r 0)
      = Finset.fold min ⊤ (fun k : Fin 4096 => rowD (zRow x w b r) (eRow E) ⟨k.val, by omega⟩) Finset.univ := by
  pointwise [k0_pay10, k0_pay8]
  simp only [pay7_apply x w b h, top_word]

theorem pay12_apply (h : Coded e E s) (r : Fin 256) :
    k0_pay12 x w b e s (ix2 r 0)
      = Finset.fold min ⊤ (fun k : Fin 4096 => rowD (zRow x w b r) (eRow E) ⟨4096 + k.val, by omega⟩) Finset.univ := by
  pointwise [k0_pay12, k0_pay9]
  simp only [pay7_apply x w b h, top_word]

theorem pay11_apply (h : Coded e E s) (r : Fin 256) :
    k0_pay11 x w b e s (ix1 r)
      = Finset.fold IntOp.minsi 2147483647#32 (fun k : Fin 4096 =>
          if rowD (zRow x w b r) (eRow E) ⟨k.val, by omega⟩
              = Finset.fold min ⊤ (fun k : Fin 4096 => rowD (zRow x w b r) (eRow E) ⟨k.val, by omega⟩) Finset.univ
            then BitVec.ofNat 32 k.val else 8192#32) Finset.univ := by
  pointwise [k0_pay11, k0_pay8]
  simp only [pay7_apply x w b h, pay10_apply x w b h]

theorem pay13_apply (h : Coded e E s) (r : Fin 256) (k : Fin 4096) :
    k0_pay13 x w b e s (ix2 r k)
      = BitVec.ofBool (decide (rowD (zRow x w b r) (eRow E) ⟨4096 + k.val, by omega⟩
          = Finset.fold min ⊤ (fun k : Fin 4096 => rowD (zRow x w b r) (eRow E) ⟨4096 + k.val, by omega⟩) Finset.univ)) := by
  pointwise [k0_pay13, k0_pay9]
  simp only [pay7_apply x w b h, pay12_apply x w b h]

theorem word_shift (k : Fin 4096) : IntOp.addi (BitVec.ofNat 32 k.val) 4096#32 = BitVec.ofNat 32 (4096 + k.val) := by
  rw [Nat.add_comm]
  exact (BitVec.ofNat_add k.val 4096).symm

theorem select_ofBool {α : Type} (p : Prop) [Decidable p] (u v : α) :
    Scalar.select (BitVec.ofBool (decide p)) u v = if p then u else v := by
  by_cases hp : p <;> simp [hp, Scalar.select]

/-- The index a point picks at row r, over the halves' minima and positions. -/
theorem pick_apply (v28 : FVec Ideal S256x1 .f32) (v33 : IVec S256 32) (v35 : FVec Ideal S256x1 .f32) (v37 : IVec S256x4096 1)
    (r : Fin 256) :
    k0_pay1 (iota .tc S256x4096 32 [1] iota_S256x4096_d1_w32) v28 v33 v35 v37 (ix1 r)
      = if v35 (ix2 r 0) < v28 (ix2 r 0) then
          Finset.fold IntOp.minsi 2147483647#32
            (fun k : Fin 4096 => Scalar.select (v37 (ix2 r k)) (IntOp.addi (BitVec.ofNat 32 k.val) 4096#32) 8192#32) Finset.univ
        else v33 (ix1 r) := by
  pointwise [k0_pay1]

/-- The index payload of a point. -/
def pick (x : Vec Ideal S256x384 .f32) (w : Vec Ideal S384x32 .f32) (b : Vec Ideal S1x32 .f32) (e : Vec Ideal S32x8192 .bf16)
    (s : Vec Ideal S1x8192 .f32) : IVec S256 32 :=
  k0_pay1 (iota .tc S256x4096 32 [1] iota_S256x4096_d1_w32) (k0_pay10 x w b e s) (k0_pay11 x w b e s) (k0_pay12 x w b e s)
    (k0_pay13 x w b e s)

theorem pick_row (h : Coded e E s) (r : Fin 256) : pick x w b e s (ix1 r) = rowI (zRow x w b r) (eRow E) := by
  rw [pick, pick_apply, pay10_apply x w b h, pay11_apply x w b h, pay12_apply x w b h]
  simp only [pay13_apply x w b h, select_ofBool, word_shift]
  exact pick_halves (rowD (zRow x w b r) (eRow E))

/-- The decoded rows, over the point's index payload. -/
theorem pay2_gen (v24 : IVec S256x4096 32) (v28 : FVec Ideal S256x1 .f32) (v33 : IVec S256 32) (v35 : FVec Ideal S256x1 .f32)
    (v37 : IVec S256x4096 1) (v55 : Vec Ideal S8192x32 .f32) (r : Fin 256) (c : Fin 32) :
    k0_pay2 v24 v28 v33 v35 v37 v55 (ix2 r c)
      = ∑ j : Fin 8192, hot (BitVec.ofNat 32 j.val) (k0_pay1 v24 v28 v33 v35 v37 (ix1 r)) * v55 (ix2 j c) := by
  pointwise [k0_pay2]
  exact Finset.sum_congr rfl fun j _ => congrArg (· * v55 (ix2 j c)) (hot_signed _ _)

theorem pay2_apply (h : Coded e E s) (r : Fin 256) (c : Fin 32) :
    k0_pay2 (iota .tc S256x4096 32 [1] iota_S256x4096_d1_w32) (k0_pay10 x w b e s) (k0_pay11 x w b e s) (k0_pay12 x w b e s)
      (k0_pay13 x w b e s) E (ix2 r c) = rowQ (zRow x w b r) (eRow E) c := by
  rw [pay2_gen]
  exact Finset.sum_congr rfl fun j _ => congrArg (fun i => hot (BitVec.ofNat 32 j.val) i * E (ix2 j c)) (pick_row x w b h r)

theorem pay3_apply (h : Coded e E s) (r : Fin 256) (c : Fin 32) :
    k0_pay3 (k0_pay6 x w b) (iota .tc S256x4096 32 [1] iota_S256x4096_d1_w32) (k0_pay10 x w b e s) (k0_pay11 x w b e s)
      (k0_pay12 x w b e s) (k0_pay13 x w b e s) E (ix2 r c) = rowS (zRow x w b r) (eRow E) c := by
  show k0_pay6 x w b (ix2 r c) + (k0_pay2 _ _ _ _ _ E (ix2 r c) - k0_pay6 x w b (ix2 r c)) = _
  rw [pay2_apply x w b h, pay6_apply]
  rfl

theorem pay5_gen (v7 : FVec Ideal S256x32 .f32) (v24 : IVec S256x4096 32) (v28 : FVec Ideal S256x1 .f32) (v33 : IVec S256 32)
    (v35 : FVec Ideal S256x1 .f32) (v37 : IVec S256x4096 1) (v55 : Vec Ideal S8192x32 .f32) (v70 : Vec Ideal S1x1 .f32)
    (i j : Fin 1) :
    k0_pay5 v7 v24 v28 v33 v35 v37 v55 v70 (ix2 i j)
      = v70 (ix2 i j) + ∑ r : Fin 256, ∑ c : Fin 32,
          (k0_pay2 v24 v28 v33 v35 v37 v55 (ix2 r c) - v7 (ix2 r c)) * (k0_pay2 v24 v28 v33 v35 v37 v55 (ix2 r c) - v7 (ix2 r c)) := by
  pointwise [k0_pay5]

theorem pay5_apply (h : Coded e E s) (v70 : Vec Ideal S1x1 .f32) (i j : Fin 1) :
    k0_pay5 (k0_pay6 x w b) (iota .tc S256x4096 32 [1] iota_S256x4096_d1_w32) (k0_pay10 x w b e s) (k0_pay11 x w b e s)
      (k0_pay12 x w b e s) (k0_pay13 x w b e s) E v70 (ix2 i j)
      = v70 (ix2 i j) + ∑ r : Fin 256, rowErr (zRow x w b r) (eRow E) := by
  rw [pay5_gen]
  simp only [pay2_apply x w b h, pay6_apply]
  rfl
end

end Cert.Proof.Block
end
-- ==== Proof.KernelValue.lean ====
/-
  What the kernel's output arrays hold after the run, token by token.
-/
module

public import proofs.«01_k».proof.Proof.Entry
public import proofs.«01_k».proof.Proof.Block

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val] ∧ win0_8.index t = ![t.val, 0] ∧ win0_9.index t = ![0, 0] :=
  (by decide +kernel : ∀ t : Fin grid0.N, _)

/-- Token n's encoder output. -/
def flatZ (n : Fin 65536) : Fin 32 → EReal :=
  rowZ (fun k => lat m c (ix3 ⟨n.val / 1024, by omega⟩ ⟨n.val % 1024, by omega⟩ k)) (fun k j => wgt m c (ix2 k j))
    (fun j => bias m c (ix1 j))
/-- The codebook by row and column. -/
def codes : Fin 8192 → Fin 32 → EReal := fun j k => emb m c (ix2 j k)

/-! ## The blocks a point reads -/

section
variable (t : Fin cfg0.N)

theorem blk_lat (r : Fin 256) (k : Fin 384) (hn : t.val * 256 + r.val < 65536) :
    (iblk m c 0 t : Vec Ideal S256x384 .f32) (ix2 r k)
      = lat m c (ix3 ⟨(t.val * 256 + r.val) / 1024, by omega⟩ ⟨(t.val * 256 + r.val) % 1024, by omega⟩ k) := by
  refine Eq.trans ?_ (lat_apply m c ⟨t.val * 256 + r.val, hn⟩ k)
  blk_ext [iblk, idx t]

theorem blk_wgt : (iblk m c 1 t : Vec Ideal S384x32 .f32) = wgt m c := by
  blk_ext! [iblk, V, idx t]

theorem blk_bias (j : Fin 32) : (iblk m c 2 t : Vec Ideal S1x32 .f32) (ix2 0 j) = bias m c (ix1 j) := by
  refine Eq.trans ?_ (bias_apply m c j)
  blk_ext [iblk, idx t]

theorem blk_embT (k : Fin 32) (j : Fin 8192) : (iblk m c 3 t : Vec Ideal S32x8192 .bf16) (ix2 k j) = emb m c (ix2 j k) := by
  refine Eq.trans ?_ (embT_apply m c k j)
  blk_ext [iblk, idx t]

theorem blk_emb : (iblk m c 4 t : Vec Ideal S8192x32 .f32) = emb m c := by
  blk_ext! [iblk, V, idx t]

theorem blk_norms (j : Fin 8192) : (iblk m c 5 t : Vec Ideal S1x8192 .f32) (ix2 0 j)
    = ∑ k : Fin 32, emb m c (ix2 j k) * emb m c (ix2 j k) := by
  refine Eq.trans ?_ (norms_apply m c j)
  blk_ext [iblk, idx t]
end

/-! ## The blocks a point leaves -/

theorem tok_lt (t : Fin cfg0.N) (r : Fin 256) : t.val * 256 + r.val < 65536 := by
  have h : t.val < 256 := lt_of_lt_of_eq t.isLt N_0
  omega

/-- Row r of point t is token `t * 256 + r`. -/
abbrev tok (t : Fin cfg0.N) (r : Fin 256) : Fin 65536 := ⟨t.val * 256 + r.val, tok_lt t r⟩

section
variable (t : Fin cfg0.N)

theorem zRow_blk (r : Fin 256) : Block.zRow (iblk m c 0 t) (iblk m c 1 t) (iblk m c 2 t) r = flatZ m c (tok t r) := by
  unfold Block.zRow flatZ
  congr 1
  · exact funext fun k => blk_lat m c t r k (tok_lt t r)
  · exact funext fun k => funext fun j => congrFun (blk_wgt m c t) (ix2 k j)
  · exact funext fun j => blk_bias m c t j

theorem eRow_blk : Block.eRow (iblk m c 4 t) = codes m c :=
  funext fun j => funext fun k => congrFun (blk_emb m c t) (ix2 j k)

theorem coded_blk : Block.Coded (iblk m c 3 t) (iblk m c 4 t) (iblk m c 5 t) := by
  have e : (iblk m c 4 t : Vec Ideal S8192x32 .f32) = emb m c := blk_emb m c t
  constructor
  · intro k j
    exact (blk_embT m c t k j).trans (congrFun e (ix2 j k)).symm
  · intro j
    exact (blk_norms m c t j).trans
      (congrArg (fun v : Vec Ideal S8192x32 .f32 => ∑ k : Fin 32, (show EReal from v (ix2 j k)) * v (ix2 j k)) e.symm)

theorem pay6_blk (r : Fin 256) (j : Fin 32) : k0_pay6 (iblk m c 0 t) (iblk m c 1 t) (iblk m c 2 t) (ix2 r j) = flatZ m c (tok t r) j :=
  (Block.pay6_apply _ _ _ r j).trans (congrFun (zRow_blk m c t r) j)

theorem pick_blk (r : Fin 256) :
    Block.pick (iblk m c 0 t) (iblk m c 1 t) (iblk m c 2 t) (iblk m c 3 t) (iblk m c 5 t) (ix1 r)
      = rowI (flatZ m c (tok t r)) (codes m c) :=
  (Block.pick_row _ _ _ (coded_blk m c t) r).trans (congrArg₂ rowI (zRow_blk m c t r) (eRow_blk m c t))

theorem pay3_blk (r : Fin 256) (j : Fin 32) :
    k0_pay3 (k0_pay6 (iblk m c 0 t) (iblk m c 1 t) (iblk m c 2 t)) (iota .tc S256x4096 32 [1] iota_S256x4096_d1_w32)
      (k0_pay10 (iblk m c 0 t) (iblk m c 1 t) (iblk m c 2 t) (iblk m c 3 t) (iblk m c 5 t))
      (k0_pay11 (iblk m c 0 t) (iblk m c 1 t) (iblk m c 2 t) (iblk m c 3 t) (iblk m c 5 t))
      (k0_pay12 (iblk m c 0 t) (iblk m c 1 t) (iblk m c 2 t) (iblk m c 3 t) (iblk m c 5 t))
      (k0_pay13 (iblk m c 0 t) (iblk m c 1 t) (iblk m c 2 t) (iblk m c 3 t) (iblk m c 5 t)) (iblk m c 4 t) (ix2 r j)
      = rowS (flatZ m c (tok t r)) (codes m c) j :=
  (Block.pay3_apply _ _ _ (coded_blk m c t) r j).trans
    (congrFun (congrArg₂ rowS (zRow_blk m c t r) (eRow_blk m c t)) j)

/-- The squared error point t adds. -/
def part : EReal := ∑ r : Fin 256, rowErr (flatZ m c (tok t r)) (codes m c)

theorem pay5_blk (v : Vec Ideal S1x1 .f32) (i j : Fin 1) :
    k0_pay5 (k0_pay6 (iblk m c 0 t) (iblk m c 1 t) (iblk m c 2 t)) (iota .tc S256x4096 32 [1] iota_S256x4096_d1_w32)
      (k0_pay10 (iblk m c 0 t) (iblk m c 1 t) (iblk m c 2 t) (iblk m c 3 t) (iblk m c 5 t))
      (k0_pay11 (iblk m c 0 t) (iblk m c 1 t) (iblk m c 2 t) (iblk m c 3 t) (iblk m c 5 t))
      (k0_pay12 (iblk m c 0 t) (iblk m c 1 t) (iblk m c 2 t) (iblk m c 3 t) (iblk m c 5 t))
      (k0_pay13 (iblk m c 0 t) (iblk m c 1 t) (iblk m c 2 t) (iblk m c 3 t) (iblk m c 5 t)) (iblk m c 4 t) v (ix2 i j)
      = v (ix2 i j) + part m c t := by
  refine (Block.pay5_apply _ _ _ (coded_blk m c t) v i j).trans (congrArg (v (ix2 i j) + ·) ?_)
  exact Finset.sum_congr rfl fun r _ => congrArg₂ rowErr (zRow_blk m c t r) (eRow_blk m c t)
end

/-- The accumulator starts at zero. -/
theorem pay4_apply (j : S1x1.Idx) : k0_pay4 (F := Ideal) j = 0 := by
  idx_vars j
  pointwise [k0_pay4]

/-! ## The arrays after the run -/

theorem z_array : (dats m 0 c).arrAt 6 (cfgs 0).N = fun i : S65536x32.Idx => flatZ m c (i 0) (i 1) := by
  refine (dats m 0 c).arrAt_eq_of_covers 6 _ (by decide +kernel) fun t _ y => ?_
  blk_simp
  rw [after0_6]
  by_cases h0 : t.val % 256 = 0
  · rw [outsAt0_A m c t h0]; frame_out
    idx_vars y
    refine (pay6_blk m c t y0 y1).trans (congrArg₂ (flatZ m c) (Fin.ext ?_) (Fin.ext ?_)) <;> blk_simp [idx t] <;> simp
  · rw [outsAt0_B m c t h0]; frame_out
    idx_vars y
    refine (pay6_blk m c t y0 y1).trans (congrArg₂ (flatZ m c) (Fin.ext ?_) (Fin.ext ?_)) <;> blk_simp [idx t] <;> simp

theorem i_array : (dats m 0 c).arrAt 7 (cfgs 0).N = fun i : S65536.Idx => rowI (flatZ m c (i 0)) (codes m c) := by
  refine (dats m 0 c).arrAt_eq_of_covers 7 _ (by decide +kernel) fun t _ y => ?_
  blk_simp
  rw [after0_7]
  by_cases h0 : t.val % 256 = 0
  · rw [outsAt0_A m c t h0]; frame_out
    idx_vars y
    refine (pick_blk m c t y0).trans (congrArg (fun n => rowI (flatZ m c n) (codes m c)) (Fin.ext ?_))
    blk_simp [idx t]
  · rw [outsAt0_B m c t h0]; frame_out
    idx_vars y
    refine (pick_blk m c t y0).trans (congrArg (fun n => rowI (flatZ m c n) (codes m c)) (Fin.ext ?_))
    blk_simp [idx t]

theorem s_array : (dats m 0 c).arrAt 8 (cfgs 0).N = fun i : S65536x32.Idx => rowS (flatZ m c (i 0)) (codes m c) (i 1) := by
  refine (dats m 0 c).arrAt_eq_of_covers 8 _ (by decide +kernel) fun t _ y => ?_
  blk_simp
  rw [after0_8]
  by_cases h0 : t.val % 256 = 0
  · rw [outsAt0_A m c t h0]; frame_out
    idx_vars y
    refine (pay3_blk m c t y0 y1).trans (congrArg₂ (fun n j => rowS (flatZ m c n) (codes m c) j) (Fin.ext ?_) (Fin.ext ?_)) <;>
      blk_simp [idx t] <;> simp
  · rw [outsAt0_B m c t h0]; frame_out
    idx_vars y
    refine (pay3_blk m c t y0 y1).trans (congrArg₂ (fun n j => rowS (flatZ m c n) (codes m c) j) (Fin.ext ?_) (Fin.ext ?_)) <;>
      blk_simp [idx t] <;> simp

theorem part_sum (t : Fin cfg0.N) (hb : ∀ s : Fin 256, 256 * (t.val / 256) + s.val < cfg0.N) :
    ∑ s : Fin 256, part m c ⟨256 * (t.val / 256) + s.val, hb s⟩ = ∑ t : Fin cfg0.N, part m c t := by
  have h : t.val < 256 := lt_of_lt_of_eq t.isLt N_0
  refine Fintype.sum_equiv (finCongr N_0.symm) _ _ fun s => congrArg (part m c) (Fin.ext ?_)
  show 256 * (t.val / 256) + s.val = s.val
  omega

theorem l_array : (dats m 0 c).arrAt 9 (cfgs 0).N = fun _ : S1x1.Idx => ∑ t : Fin cfg0.N, part m c t := by
  refine (dats m 0 c).arrAt_eq_of_covers 9 _ (by decide +kernel) fun t hf y => ?_
  blk_simp
  rw [after0_9, Pipeline.eq_sum_fin_of_reset_step_apply_of_flush (fun n h => (outsAt0 m c n h).2.2.2) 256 (fun _ => 0)
    (fun t _ => part m c t)
    (fun t h j => by rw [outsAt0_A m c t h]; frame_out; idx_vars j; rw [pay5_blk, pay4_apply])
    (fun t h j => by rw [outsAt0_B m c t h]; frame_out; idx_vars j; rw [pay5_blk])
    t ((flush0_9 t).mp hf) _, zero_add]
  exact part_sum m c t _

end Cert.Proof.Ker
end
-- ==== Proof.KernelRun.lean ====
/-
  The kernel program's run: what its four results hold, from what the region's arrays hold and the host operations after it.
-/
module

public import proofs.«01_k».proof.Proof.KernelValue
public import Idealize.ShloMosaic.Lib.StableHlo.RunHlo
public import Idealize.ShloMosaic.Lib.StableHlo.RunRead

@[expose] public section

set_option maxRecDepth 16384

noncomputable section

namespace Cert.Proof.Ker

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- The core's buffers as the region leaves them. -/
def exitV : Valuation τ sig (Elt Ideal) := Pipeline.withArrays spec0 c (V0 m c) fun w => (dats m 0 c).arrAt w (cfgs 0).N

theorem exit_z : exitV m c (Proc.devRef .tc main_call0_v7_0) = fun i : S65536x32.Idx => flatZ m c (i 0) (i 1) :=
  (Pipeline.withArrays_arr spec0 winFacts0.arr_inj c (V0 m c) _ 6).trans (z_array m c)
theorem exit_i : exitV m c (Proc.devRef .tc main_call0_v7_1) = fun i : S65536.Idx => rowI (flatZ m c (i 0)) (codes m c) :=
  (Pipeline.withArrays_arr spec0 winFacts0.arr_inj c (V0 m c) _ 7).trans (i_array m c)
theorem exit_s : exitV m c (Proc.devRef .tc main_call0_v7_2) = fun i : S65536x32.Idx => rowS (flatZ m c (i 0)) (codes m c) (i 1) :=
  (Pipeline.withArrays_arr spec0 winFacts0.arr_inj c (V0 m c) _ 8).trans (s_array m c)
theorem exit_l : exitV m c (Proc.devRef .tc main_call0_v7_3) = fun _ : S1x1.Idx => ∑ t : Fin cfg0.N, part m c t :=
  (Pipeline.withArrays_arr spec0 winFacts0.arr_inj c (V0 m c) _ 9).trans (l_array m c)

section
variable (V' : Valuation τ sig (Elt Ideal))

theorem tail_s : StableHlo.after (hostOps1 (F := Ideal)) V' (Proc.devRef .tc main_v0_0)
    = shapeCast S64x1024x32 (V' (Proc.devRef .tc main_call0_v7_2)) shapeCasts_S65536x32_S64x1024x32 := by
  after_reads_simp
  rfl
theorem tail_z : StableHlo.after (hostOps1 (F := Ideal)) V' (Proc.devRef .tc main_v0_3)
    = shapeCast S64x1024x32 (V' (Proc.devRef .tc main_call0_v7_0)) shapeCasts_S65536x32_S64x1024x32 := by
  after_reads_simp
  rfl
theorem tail_i : StableHlo.after (hostOps1 (F := Ideal)) V' (Proc.devRef .tc main_v0_2)
    = shapeCast S64x1024 (V' (Proc.devRef .tc main_call0_v7_1)) shapeCasts_S65536_S64x1024 := by
  after_reads_simp
  rfl
theorem tail_l : StableHlo.after (hostOps1 (F := Ideal)) V' (Proc.devRef .tc main_v0_1)
    = (let q : FVec Ideal S_ .f32 := Host.divf (shapeCast S_ (V' (Proc.devRef .tc main_call0_v7_3)) shapeCasts_S1x1_S_ : FVec Ideal S_ .f32) (constant S_ .f32 0x4A000000#32)
       addf q (mulf (constant S_ .f32 0x3E800000#32) q)) := by
  after_reads_simp
  rfl
end

/-! ## The results -/

/-- The straight-through rows, the indices and the encoder rows, token after token. -/
def flatS : FVec Ideal S65536x32 .f32 := fun i => rowS (flatZ m c (i 0)) (codes m c) (i 1)
def flatI : IVec S65536 32 := fun i => rowI (flatZ m c (i 0)) (codes m c)
def flatE : FVec Ideal S65536x32 .f32 := fun i => flatZ m c (i 0) (i 1)
/-- The squared errors of all points, added up, in the one cell the points share. -/
def sumCell : FVec Ideal S1x1 .f32 := fun _ => ∑ t : Fin cfg0.N, part m c t

def kerS : FVec Ideal S64x1024x32 .f32 := shapeCast S64x1024x32 (flatS m c) shapeCasts_S65536x32_S64x1024x32
def kerZ : FVec Ideal S64x1024x32 .f32 := shapeCast S64x1024x32 (flatE m c) shapeCasts_S65536x32_S64x1024x32
def kerI : IVec S64x1024 32 := shapeCast S64x1024 (flatI m c) shapeCasts_S65536_S64x1024
/-- The mean squared error the host divides out. -/
def kerMean : FVec Ideal S_ .f32 :=
  Host.divf (shapeCast S_ (sumCell m c) shapeCasts_S1x1_S_) (constant S_ .f32 0x4A000000#32)
def kerL : FVec Ideal S_ .f32 := addf (kerMean m c) (mulf (constant S_ .f32 0x3E800000#32) (kerMean m c))

/-- The kernel program's run: its four results, and the arguments unchanged. -/
theorem run : θ_run defs (onTc (τ := τ) (main (F := Ideal))) ⟨m, fun _ => 0, ρ⟩ fun r => ∀ c : Dev nD,
      r.2.mem ((c.tc : Thread nD τ).loc main_v0_0) = kerS m c
      ∧ r.2.mem ((c.tc : Thread nD τ).loc main_v0_1) = kerL m c
      ∧ r.2.mem ((c.tc : Thread nD τ).loc main_v0_2) = kerI m c
      ∧ r.2.mem ((c.tc : Thread nD τ).loc main_v0_3) = kerZ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (unchanged m ρ))
  have read : ∀ b : Ref sig .tc, b ∈ Pipeline.restRefs sig spec0 →
      r.2.mem ((c.tc : Thread nD τ).loc b) = StableHlo.after (hostOps1 (F := Ideal)) (exitV m c) (Proc.devRef .tc b) :=
    fun b hb => (h.1 c).2 b hb
  refine ⟨?_, ?_, ?_, ?_, h.2 c⟩
  · refine (read main_v0_0 (Pipeline.mem_restRefs_of main_v0_0 (by decide) (by decide))).trans ?_
    rw [tail_s, exit_s]; rfl
  · refine (read main_v0_1 (Pipeline.mem_restRefs_of main_v0_1 (by decide) (by decide))).trans ?_
    rw [tail_l, exit_l]; rfl
  · refine (read main_v0_2 (Pipeline.mem_restRefs_of main_v0_2 (by decide) (by decide))).trans ?_
    rw [tail_i, exit_i]; rfl
  · refine (read main_v0_3 (Pipeline.mem_restRefs_of main_v0_3 (by decide) (by decide))).trans ?_
    rw [tail_z, exit_z]; rfl

end Cert.Proof.Ker
end
-- ==== Proof.RefRun.lean ====
/-
  The run of the reference (`Cert.ReferenceIdeal`), a straight line of host operations with two calls, cut into four stretches:
  the distances, the call that picks the nearest row, the call that makes the one-hot rows, and everything after.
  Each stretch's results are stated over the contents it starts from, so no term is written twice.
-/
module

public import proofs.«01_k».proof.Proof.Gen.ReferenceIdeal
public import Idealize.ShloMosaic.Lib.StableHlo.RunHlo
public import Idealize.ShloMosaic.Lib.StableHlo.RunRead
public import Idealize.ShloMosaic.Lib.Pipeline.Regions
public import Idealize.ShloMosaic.Lib.Quiescent

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The encoder, and the squared distances to every codebook row. -/
abbrev distOps : List (HloOp τ sig (Elt F)) :=
  [ binary main_arg0 main_arg1 main_v0 ((fun l r => Host.dotGeneral dot_S64x1024x384_S384x32_S64x1024x32_2_0_01_1_n_n none l r) : (⟨S64x1024x384, .f32⟩ : BufTy).Contents (Elt F) → (⟨S384x32, .f32⟩ : BufTy).Contents (Elt F) → (⟨S64x1024x32, .f32⟩ : BufTy).Contents (Elt F)),
    unary main_arg2 main_v1 (broadcastInDim S1x1x32 ![2] bcast_S32_S1x1x32_2 : (⟨S32, .f32⟩ : BufTy).Contents (Elt F) → (⟨S1x1x32, .f32⟩ : BufTy).Contents (Elt F)),
    unary main_v1 main_v2 (broadcastInDim S64x1024x32 ![0, 1, 2] bcast_S1x1x32_S64x1024x32_0_1_2 : (⟨S1x1x32, .f32⟩ : BufTy).Contents (Elt F) → (⟨S64x1024x32, .f32⟩ : BufTy).Contents (Elt F)),
    binary main_v0 main_v2 main_v3 (addf : (⟨S64x1024x32, .f32⟩ : BufTy).Contents (Elt F) → (⟨S64x1024x32, .f32⟩ : BufTy).Contents (Elt F) → (⟨S64x1024x32, .f32⟩ : BufTy).Contents (Elt F)),
    reshape main_v3 main_v4 (rfl : (.f32 : EltTy) = .f32) shapeCasts_S64x1024x32_S65536x32,
    binary main_v4 main_v4 main_v5 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v5 main_cst main_v6 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v6 main_v7 (broadcastInDim S65536x1 ![0] bcast_S65536_S65536x1_0 : (⟨S65536, .f32⟩ : BufTy).Contents (Elt F) → (⟨S65536x1, .f32⟩ : BufTy).Contents (Elt F)),
    unary main_arg3 main_v8 ((transpose S32x8192 [1, 0] · transposes_S8192x32_S32x8192_1_0) : (⟨S8192x32, .f32⟩ : BufTy).Contents (Elt F) → (⟨S32x8192, .f32⟩ : BufTy).Contents (Elt F)),
    binary main_v4 main_v8 main_v9 ((fun l r => Host.dotGeneral dot_S65536x32_S32x8192_S65536x8192_1_0_0_1_n_n none l r) : (⟨S65536x32, .f32⟩ : BufTy).Contents (Elt F) → (⟨S32x8192, .f32⟩ : BufTy).Contents (Elt F) → (⟨S65536x8192, .f32⟩ : BufTy).Contents (Elt F)),
    nullary main_cst_0 (constant S_ .f32 0x40000000#32),
    unary main_cst_0 main_v10 (broadcastInDim S65536x8192 ![] bcast_S_S65536x8192 : (⟨S_, .f32⟩ : BufTy).Contents (Elt F) → (⟨S65536x8192, .f32⟩ : BufTy).Contents (Elt F)),
    binary main_v10 main_v9 main_v11 (mulf : (⟨S65536x8192, .f32⟩ : BufTy).Contents (Elt F) → (⟨S65536x8192, .f32⟩ : BufTy).Contents (Elt F) → (⟨S65536x8192, .f32⟩ : BufTy).Contents (Elt F)),
    unary main_v7 main_v12 (broadcastInDim S65536x8192 ![0, 1] bcast_S65536x1_S65536x8192_0_1 : (⟨S65536x1, .f32⟩ : BufTy).Contents (Elt F) → (⟨S65536x8192, .f32⟩ : BufTy).Contents (Elt F)),
    binary main_v12 main_v11 main_v13 (subf : (⟨S65536x8192, .f32⟩ : BufTy).Contents (Elt F) → (⟨S65536x8192, .f32⟩ : BufTy).Contents (Elt F) → (⟨S65536x8192, .f32⟩ : BufTy).Contents (Elt F)),
    binary main_arg3 main_arg3 main_v14 (mulf : (⟨S8192x32, .f32⟩ : BufTy).Contents (Elt F) → (⟨S8192x32, .f32⟩ : BufTy).Contents (Elt F) → (⟨S8192x32, .f32⟩ : BufTy).Contents (Elt F)),
    nullary main_cst_1 (constant S_ .f32 0x00000000#32),
    binary main_v14 main_cst_1 main_v15 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v15 main_v16 (broadcastInDim S1x8192 ![1] bcast_S8192_S1x8192_1 : (⟨S8192, .f32⟩ : BufTy).Contents (Elt F) → (⟨S1x8192, .f32⟩ : BufTy).Contents (Elt F)),
    unary main_v16 main_v17 (broadcastInDim S65536x8192 ![0, 1] bcast_S1x8192_S65536x8192_0_1 : (⟨S1x8192, .f32⟩ : BufTy).Contents (Elt F) → (⟨S65536x8192, .f32⟩ : BufTy).Contents (Elt F)),
    binary main_v13 main_v17 main_v18 (addf : (⟨S65536x8192, .f32⟩ : BufTy).Contents (Elt F) → (⟨S65536x8192, .f32⟩ : BufTy).Contents (Elt F) → (⟨S65536x8192, .f32⟩ : BufTy).Contents (Elt F)) ]

/-- The call that returns, for each token, the index of its least distance. -/
abbrev argOps : List (HloOp τ sig (Elt F)) :=
  [ TRef.nullary main_call0.v0 (iotaInDim S65536x8192 32 1),
    TRef.nullary main_call0.cst (constant S_ .f32 0x7F800000#32),
    TRef.nullary main_call0.c (constantI S_ 32 0#32),
    TRef.quaternary (.of main_v18 : TRef sig ⟨S65536x8192, .f32⟩) main_call0.v0 main_call0.cst main_call0.c main_call0.v1_0 (fun x y u v j => (Host.argReduce reducer_argmin_f32_i32 x y u v reducesTo_S65536x8192_S65536_d1 h_S_ j).1),
    TRef.quaternary (.of main_v18 : TRef sig ⟨S65536x8192, .f32⟩) main_call0.v0 main_call0.cst main_call0.c main_call0.v1_1 (fun x y u v j => (Host.argReduce reducer_argmin_f32_i32 x y u v reducesTo_S65536x8192_S65536_d1 h_S_ j).2) ]

/-- The call that turns the indices into one-hot rows. -/
abbrev hotOps : List (HloOp τ sig (Elt F)) :=
  [ TRef.unary (.of main_v19 : TRef sig ⟨S65536, .i32⟩) main_call1.v0 (broadcastInDim S65536x1 ![0] bcast_S65536_S65536x1_0),
    TRef.nullary main_call1.v1 (iotaInDim S1x8192 32 1),
    TRef.unary main_call1.v0 main_call1.v2 (broadcastInDim S65536x8192 ![0, 1] bcast_S65536x1_S65536x8192_0_1),
    TRef.unary main_call1.v1 main_call1.v3 (broadcastInDim S65536x8192 ![0, 1] bcast_S1x8192_S65536x8192_0_1),
    TRef.binary main_call1.v2 main_call1.v3 main_call1.v4 (cmpi .eq),
    TRef.unary main_call1.v4 main_call1.v5 (uitofp .f32) ]

/-- The quantized rows, the two losses and the results. -/
abbrev outOps : List (HloOp τ sig (Elt F)) :=
  [ binary main_v20 main_arg3 main_v21 ((fun l r => Host.dotGeneral dot_S65536x8192_S8192x32_S65536x32_1_0_0_1_n_n none l r) : (⟨S65536x8192, .f32⟩ : BufTy).Contents (Elt F) → (⟨S8192x32, .f32⟩ : BufTy).Contents (Elt F) → (⟨S65536x32, .f32⟩ : BufTy).Contents (Elt F)),
    reshape main_v21 main_v22 (rfl : (.f32 : EltTy) = .f32) shapeCasts_S65536x32_S64x1024x32,
    binary main_v22 main_v3 main_v23 (subf : (⟨S64x1024x32, .f32⟩ : BufTy).Contents (Elt F) → (⟨S64x1024x32, .f32⟩ : BufTy).Contents (Elt F) → (⟨S64x1024x32, .f32⟩ : BufTy).Contents (Elt F)),
    binary main_v23 main_v23 main_v24 (mulf : (⟨S64x1024x32, .f32⟩ : BufTy).Contents (Elt F) → (⟨S64x1024x32, .f32⟩ : BufTy).Contents (Elt F) → (⟨S64x1024x32, .f32⟩ : BufTy).Contents (Elt F)),
    nullary main_cst_2 (constant S_ .f32 0x00000000#32),
    binary main_v24 main_cst_2 main_v25 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_3 (constant S_ .f32 0x4A000000#32),
    binary main_v25 main_cst_3 main_v26 (Host.divf : (⟨S_, .f32⟩ : BufTy).Contents (Elt F) → (⟨S_, .f32⟩ : BufTy).Contents (Elt F) → (⟨S_, .f32⟩ : BufTy).Contents (Elt F)),
    binary main_v3 main_v22 main_v27 (subf : (⟨S64x1024x32, .f32⟩ : BufTy).Contents (Elt F) → (⟨S64x1024x32, .f32⟩ : BufTy).Contents (Elt F) → (⟨S64x1024x32, .f32⟩ : BufTy).Contents (Elt F)),
    binary main_v27 main_v27 main_v28 (mulf : (⟨S64x1024x32, .f32⟩ : BufTy).Contents (Elt F) → (⟨S64x1024x32, .f32⟩ : BufTy).Contents (Elt F) → (⟨S64x1024x32, .f32⟩ : BufTy).Contents (Elt F)),
    nullary main_cst_4 (constant S_ .f32 0x00000000#32),
    binary main_v28 main_cst_4 main_v29 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_5 (constant S_ .f32 0x4A000000#32),
    binary main_v29 main_cst_5 main_v30 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v30 main_v31 (mulf : (⟨S_, .f32⟩ : BufTy).Contents (Elt F) → (⟨S_, .f32⟩ : BufTy).Contents (Elt F) → (⟨S_, .f32⟩ : BufTy).Contents (Elt F)),
    binary main_v26 main_v31 main_v32 (addf : (⟨S_, .f32⟩ : BufTy).Contents (Elt F) → (⟨S_, .f32⟩ : BufTy).Contents (Elt F) → (⟨S_, .f32⟩ : BufTy).Contents (Elt F)),
    binary main_v22 main_v3 main_v33 (subf : (⟨S64x1024x32, .f32⟩ : BufTy).Contents (Elt F) → (⟨S64x1024x32, .f32⟩ : BufTy).Contents (Elt F) → (⟨S64x1024x32, .f32⟩ : BufTy).Contents (Elt F)),
    binary main_v3 main_v33 main_v34 (addf : (⟨S64x1024x32, .f32⟩ : BufTy).Contents (Elt F) → (⟨S64x1024x32, .f32⟩ : BufTy).Contents (Elt F) → (⟨S64x1024x32, .f32⟩ : BufTy).Contents (Elt F)),
    reshape main_v19 main_v35 (rfl : (.i32 : EltTy) = .i32) shapeCasts_S65536_S64x1024 ]

theorem distOps_sub : (distOps : List (HloOp τ sig (Elt F))).Forall fun op => op.bufs ⊆ tcRefs τ sig :=
  ⟨binary_bufs_sub .., unary_bufs_sub .., unary_bufs_sub .., binary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩

theorem hotOps_sub : (hotOps : List (HloOp τ sig (Elt F))).Forall fun op => op.bufs ⊆ tcRefs τ sig :=
  ⟨unary_bufs_sub .., nullary_bufs_sub .., unary_bufs_sub .., unary_bufs_sub .., binary_bufs_sub .., unary_bufs_sub ..⟩

theorem outOps_sub : (outOps : List (HloOp τ sig (Elt F))).Forall fun op => op.bufs ⊆ tcRefs τ sig :=
  ⟨binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., reshape_bufs_sub ..⟩

theorem argmin_eq : fn_argmin.body (F := F) (.of main_v18) main_call0 = seq argOps := rfl
theorem one_hot_eq : fn_one_hot.body (F := F) (.of main_v19) main_call1 = seq hotOps := rfl

theorem main_chain (c : Dev nD) : main (F := F) c = (Pipeline.chain
    [ seq distOps, fn_argmin.body (F := F) (.of main_v18) main_call0, fn_one_hot.body (F := F) (.of main_v19) main_call1,
      seq outOps ] : Prog (TpuEff nD τ sig (Elt F) (Pipeline.Sig Λ₀ (Fin 0) fun p => (pcfgs (F := F) p).Adm) .tc) PUnit) := by
  rewrite [chain_seq_cons, Pipeline.chain_cons, Pipeline.chain_cons, chain_seq_cons]
  chain_rfl

/-- All operations, in order. -/
def allOps : List (HloOp τ sig (Elt F)) := distOps ++ (argOps ++ (hotOps ++ outOps))

/-- @main is the four stretches in order. -/
theorem main_eq (c : Dev nD) : main (F := F) c = seq allOps := by
  rw [main_chain, argmin_eq, one_hot_eq, allOps, seq_append, seq_append, seq_append]
  simp only [Pipeline.chain, Pipeline.chainK, bind_assoc, pure_bind, bind_pure_unit]

/-- Contents after one line and then another. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

theorem forall_two {α : Type*} {p : α → Prop} {l₁ l₂ : List α} (h₁ : l₁.Forall p) (h₂ : l₂.Forall p) :
    (l₁ ++ l₂).Forall p := by
  rw [List.forall_iff_forall_mem] at *
  exact fun x hx => (List.mem_append.1 hx).elim (h₁ x) (h₂ x)

theorem allOps_sub : (allOps : List (HloOp τ sig (Elt F))).Forall fun op => op.bufs ⊆ tcRefs τ sig :=
  forall_two distOps_sub (forall_two argOps_sub (forall_two hotOps_sub outOps_sub))

/-- No operation leaves its results open. -/
theorem allOps_fresh : ∀ op ∈ (allOps : List (HloOp τ sig (Elt F))), op.fresh = ∅ := by
  have hA : ∀ op ∈ (distOps : List (HloOp τ sig (Elt F))), op.fresh = ∅ := by
    intro _ h; (repeat (cases h with | head => rfl | tail _ h => ?_)); exact nomatch h
  have hB : ∀ op ∈ (argOps : List (HloOp τ sig (Elt F))), op.fresh = ∅ := by
    intro _ h; (repeat (cases h with | head => rfl | tail _ h => ?_)); exact nomatch h
  have hC : ∀ op ∈ (hotOps : List (HloOp τ sig (Elt F))), op.fresh = ∅ := by
    intro _ h; (repeat (cases h with | head => rfl | tail _ h => ?_)); exact nomatch h
  have hD : ∀ op ∈ (outOps : List (HloOp τ sig (Elt F))), op.fresh = ∅ := by
    intro _ h; (repeat (cases h with | head => rfl | tail _ h => ?_)); exact nomatch h
  intro op h
  rcases List.mem_append.1 h with h | h
  · exact hA op h
  rcases List.mem_append.1 h with h | h
  · exact hB op h
  rcases List.mem_append.1 h with h | h
  · exact hC op h
  · exact hD op h

theorem scopedRefs_eq : (Finset.univ.filter fun b : Ref sig .tc => b.isScoped) = ∅ := by decide
theorem scopedSems_eq : (Finset.univ.filter fun sm : SemLoc sig => sm.isScoped .tc) = ∅ := by decide

/-- The reference runs to its operations folded over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after allOps (launchContents m c) (Proc.devRef .tc b) :=
  run_seq scopedRefs_eq scopedSems_eq defs main (fun _ => allOps) main_eq (fun _ => allOps_sub) m ρ (fun _ => allOps_fresh)

/-! ## What each stretch computes -/

/-- The encoder's output. -/
def refZ (X : FVec F S64x1024x384 .f32) (W : FVec F S384x32 .f32) (b : FVec F S32 .f32) : FVec F S64x1024x32 .f32 :=
  addf (Host.dotGeneral dot_S64x1024x384_S384x32_S64x1024x32_2_0_01_1_n_n none X W)
    (broadcastInDim S64x1024x32 ![0, 1, 2] bcast_S1x1x32_S64x1024x32_0_1_2 (broadcastInDim S1x1x32 ![2] bcast_S32_S1x1x32_2 b))

/-- The squared distances, from the encoder's output laid out one token per row. -/
def refDist (z : FVec F S65536x32 .f32) (E : FVec F S8192x32 .f32) : FVec F S65536x8192 .f32 :=
  addf
    (subf
      (broadcastInDim S65536x8192 ![0, 1] bcast_S65536x1_S65536x8192_0_1
        (broadcastInDim S65536x1 ![0] bcast_S65536_S65536x1_0
          (Host.reduceAdd (mulf z z) (constant S_ .f32 0x00000000#32) reducesTo_S65536x32_S65536_d1 h_S_)))
      (mulf (broadcastInDim S65536x8192 ![] bcast_S_S65536x8192 (constant S_ .f32 0x40000000#32))
        (Host.dotGeneral dot_S65536x32_S32x8192_S65536x8192_1_0_0_1_n_n none z
          (transpose S32x8192 [1, 0] E transposes_S8192x32_S32x8192_1_0))))
    (broadcastInDim S65536x8192 ![0, 1] bcast_S1x8192_S65536x8192_0_1
      (broadcastInDim S1x8192 ![1] bcast_S8192_S1x8192_1
        (Host.reduceAdd (mulf E E) (constant S_ .f32 0x00000000#32) reducesTo_S8192x32_S8192_d1 h_S_)))

/-- The index of each row's least distance. -/
def refIdx (d : FVec F S65536x8192 .f32) : IVec S65536 32 := fun j =>
  (Host.argReduce reducer_argmin_f32_i32 d (iotaInDim S65536x8192 32 1) (constant S_ .f32 0x7F800000#32) (constantI S_ 32 0#32)
    reducesTo_S65536x8192_S65536_d1 h_S_ j).2

/-- The one-hot rows of the indices. -/
def refHot (i : IVec S65536 32) : FVec F S65536x8192 .f32 :=
  uitofp .f32 (cmpi .eq
    (broadcastInDim S65536x8192 ![0, 1] bcast_S65536x1_S65536x8192_0_1 (broadcastInDim S65536x1 ![0] bcast_S65536_S65536x1_0 i))
    (broadcastInDim S65536x8192 ![0, 1] bcast_S1x8192_S65536x8192_0_1 (iotaInDim S1x8192 32 1)))

/-- The codebook rows picked. -/
def refQ (h : FVec F S65536x8192 .f32) (E : FVec F S8192x32 .f32) : FVec F S64x1024x32 .f32 :=
  shapeCast S64x1024x32 (Host.dotGeneral dot_S65536x8192_S8192x32_S65536x32_1_0_0_1_n_n none h E) shapeCasts_S65536x32_S64x1024x32

/-- The mean of the squares. -/
def refMean (d : FVec F S64x1024x32 .f32) : FVec F S_ .f32 :=
  Host.divf (Host.reduceAdd (mulf d d) (constant S_ .f32 0x00000000#32) reducesTo_S64x1024x32_S_d0_1_2 h_S_)
    (constant S_ .f32 0x4A000000#32)

section
variable (V : Valuation τ sig (Elt F))

theorem dist_z : after distOps V (main_v3 : DevRef τ sig)
    = refZ (V (main_arg0 : DevRef τ sig)) (V (main_arg1 : DevRef τ sig)) (V (main_arg2 : DevRef τ sig)) := by
  after_reads_simp
  rfl
theorem dist_d : after distOps V (main_v18 : DevRef τ sig)
    = refDist (shapeCast S65536x32 (refZ (V (main_arg0 : DevRef τ sig)) (V (main_arg1 : DevRef τ sig)) (V (main_arg2 : DevRef τ sig)))
        shapeCasts_S64x1024x32_S65536x32) (V (main_arg3 : DevRef τ sig)) := by
  after_reads_simp
  rfl
theorem arg_i : after argOps V (main_v19 : DevRef τ sig) = refIdx (V (main_v18 : DevRef τ sig)) := by
  after_reads_simp
  rfl
theorem hot_h : after hotOps V (main_v20 : DevRef τ sig) = refHot (V (main_v19 : DevRef τ sig)) := by
  after_reads_simp
  rfl
theorem out_loss : after outOps V (main_v32 : DevRef τ sig)
    = addf (refMean (subf (refQ (V (main_v20 : DevRef τ sig)) (V (main_arg3 : DevRef τ sig))) (V (main_v3 : DevRef τ sig))))
        (mulf (constant S_ .f32 0x3E800000#32)
          (refMean (subf (V (main_v3 : DevRef τ sig)) (refQ (V (main_v20 : DevRef τ sig)) (V (main_arg3 : DevRef τ sig)))))) := by
  after_reads_simp
  rfl
theorem out_qst : after outOps V (main_v34 : DevRef τ sig)
    = addf (V (main_v3 : DevRef τ sig))
        (subf (refQ (V (main_v20 : DevRef τ sig)) (V (main_arg3 : DevRef τ sig))) (V (main_v3 : DevRef τ sig))) := by
  after_reads_simp
  rfl
theorem out_idx : after outOps V (main_v35 : DevRef τ sig)
    = shapeCast S64x1024 (V (main_v19 : DevRef τ sig)) shapeCasts_S65536_S64x1024 := by
  after_reads_simp
  rfl
end

/-! ## The whole line -/

section
variable (X : FVec F S64x1024x384 .f32) (W : FVec F S384x32 .f32) (b : FVec F S32 .f32) (E : FVec F S8192x32 .f32)

/-- The distances, from the arguments. -/
def resD : FVec F S65536x8192 .f32 := refDist (shapeCast S65536x32 (refZ X W b) shapeCasts_S64x1024x32_S65536x32) E
/-- The indices, from the arguments. -/
def resI : IVec S65536 32 := refIdx (resD X W b E)
/-- The codebook rows picked, from the arguments. -/
def resQ : FVec F S64x1024x32 .f32 := refQ (refHot (resI X W b E)) E
/-- The quantized tokens, as the straight-through estimator returns them. -/
def resQst : FVec F S64x1024x32 .f32 := addf (refZ X W b) (subf (resQ X W b E) (refZ X W b))
/-- The loss. -/
def resLoss : FVec F S_ .f32 :=
  addf (refMean (subf (resQ X W b E) (refZ X W b)))
    (mulf (constant S_ .f32 0x3E800000#32) (refMean (subf (refZ X W b) (resQ X W b E))))
/-- The indices as they are returned. -/
def resIdx : IVec S64x1024 32 := shapeCast S64x1024 (resI (F := F) X W b E) shapeCasts_S65536_S64x1024
end

section
variable (V : Valuation τ sig (Elt F))

theorem all_eq : after (allOps (F := F)) V = after (outOps (F := F)) (after (hotOps (F := F)) (after (argOps (F := F)) (after (distOps (F := F)) V))) := by
  rw [allOps, after_two, after_two, after_two]

/-- The encoder's output, where the last stretch starts. -/
theorem mid_z : after hotOps (after argOps (after distOps V)) (main_v3 : DevRef τ sig)
    = refZ (V (main_arg0 : DevRef τ sig)) (V (main_arg1 : DevRef τ sig)) (V (main_arg2 : DevRef τ sig)) := by
  rw [← dist_z V]; generalize after distOps V = V'; after_reads_simp
theorem mid_E : after hotOps (after argOps (after distOps V)) (main_arg3 : DevRef τ sig) = V (main_arg3 : DevRef τ sig) := by
  after_reads_simp
theorem mid_i : after hotOps (after argOps (after distOps V)) (main_v19 : DevRef τ sig)
    = resI (V (main_arg0 : DevRef τ sig)) (V (main_arg1 : DevRef τ sig)) (V (main_arg2 : DevRef τ sig)) (V (main_arg3 : DevRef τ sig)) := by
  rw [resI, resD, ← dist_d V, ← arg_i]; generalize after (argOps (F := F)) _ = V'; after_reads_simp
theorem mid_h : after hotOps (after argOps (after distOps V)) (main_v20 : DevRef τ sig)
    = refHot (resI (V (main_arg0 : DevRef τ sig)) (V (main_arg1 : DevRef τ sig)) (V (main_arg2 : DevRef τ sig)) (V (main_arg3 : DevRef τ sig))) := by
  rw [resI, resD, ← dist_d V, ← arg_i, hot_h]

theorem all_z : after allOps V (main_v3 : DevRef τ sig)
    = refZ (V (main_arg0 : DevRef τ sig)) (V (main_arg1 : DevRef τ sig)) (V (main_arg2 : DevRef τ sig)) := by
  rw [all_eq, ← mid_z V]; generalize after (hotOps (F := F)) _ = V'; after_reads_simp
theorem all_qst : after allOps V (main_v34 : DevRef τ sig)
    = resQst (V (main_arg0 : DevRef τ sig)) (V (main_arg1 : DevRef τ sig)) (V (main_arg2 : DevRef τ sig)) (V (main_arg3 : DevRef τ sig)) := by
  rw [all_eq, out_qst, mid_z, mid_E, mid_h]; rfl
theorem all_loss : after allOps V (main_v32 : DevRef τ sig)
    = resLoss (V (main_arg0 : DevRef τ sig)) (V (main_arg1 : DevRef τ sig)) (V (main_arg2 : DevRef τ sig)) (V (main_arg3 : DevRef τ sig)) := by
  rw [all_eq, out_loss, mid_z, mid_E, mid_h]; rfl
theorem all_idx : after allOps V (main_v35 : DevRef τ sig)
    = resIdx (V (main_arg0 : DevRef τ sig)) (V (main_arg1 : DevRef τ sig)) (V (main_arg2 : DevRef τ sig)) (V (main_arg3 : DevRef τ sig)) := by
  rw [all_eq, out_idx, mid_i]; rfl
theorem all_arg0 : after allOps V (main_arg0 : DevRef τ sig) = V (main_arg0 : DevRef τ sig) := by
  rw [all_eq]; after_reads_simp
theorem all_arg1 : after allOps V (main_arg1 : DevRef τ sig) = V (main_arg1 : DevRef τ sig) := by
  rw [all_eq]; after_reads_simp
theorem all_arg2 : after allOps V (main_arg2 : DevRef τ sig) = V (main_arg2 : DevRef τ sig) := by
  rw [all_eq]; after_reads_simp
theorem all_arg3 : after allOps V (main_arg3 : DevRef τ sig) = V (main_arg3 : DevRef τ sig) := by
  rw [all_eq]; after_reads_simp
end

/-- The reference's run: its four results over its arguments, the arguments unchanged, every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v34) = resQst (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v32) = resLoss (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v35) = resIdx (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v3) = refZ (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  θ_run_mono (run_after m ρ) fun r h =>
    ⟨fun c => ⟨(h c main_v34).trans (all_qst _), (h c main_v32).trans (all_loss _), (h c main_v35).trans (all_idx _),
      (h c main_v3).trans (all_z _), (h c main_arg0).trans (all_arg0 _), (h c main_arg1).trans (all_arg1 _),
      (h c main_arg2).trans (all_arg2 _), (h c main_arg3).trans (all_arg3 _)⟩, sem_eq_zero_of_no_sems (by decide) r.2⟩

end Cert.Proof.Ref
end
-- ==== Proof.RefArgmin.lean ====
/-
  The reference's arg-min call over the rows of a distance array: at each row, the first index of the row's minimum.
-/
module

public import proofs.«01_k».proof.Proof.RefRun
public import proofs.«01_k».proof.Proof.Spec
public import Idealize.ShloMosaic.Lib.Pointwise

@[expose] public section

set_option maxRecDepth 16384

noncomputable section

namespace Cert.Proof.Ref

open Idealize.ShloMosaic Idealize.ShloMosaic.TcCoe Idealize.SL.Sem
open Cert.ReferenceIdeal Cert.ReferenceIdeal.Gen

/-! ## The arg-min call -/

/-- The reducer's step: the smaller value, and on equal values the smaller index. -/
theorem reducer_step (a b : EReal × BitVec 32) :
    (reducer_argmin_f32_i32 (F := Ideal) a b : EReal × BitVec 32)
      = (if a.1 < b.1 then a.1 else b.1, if a.1 < b.1 ∨ (a.1 = b.1 ∧ a.2.toInt < b.2.toInt) then a.2 else b.2) := by
  have hn : Ideal.cmp .une a.1 a.1 = 0#1 := by simp [Ideal.cmp]
  have ho : Ideal.cmp .olt a.1 b.1 = BitVec.ofBool (decide (a.1 < b.1)) := rfl
  have he : Ideal.cmp .oeq a.1 b.1 = BitVec.ofBool (decide (a.1 = b.1)) := rfl
  have hi : IntOp.cmpi .slt a.2 b.2 = BitVec.ofBool (decide (a.2.toInt < b.2.toInt)) := rfl
  unfold reducer_argmin_f32_i32
  simp only [Ideal.cmpf_def, hn, ho, he, hi]
  by_cases h1 : a.1 < b.1 <;> by_cases h2 : a.1 = b.1 <;> by_cases h3 : a.2.toInt < b.2.toInt <;>
    simp [h1, h2, h3, IntOp.ori, IntOp.andi, Scalar.select]

/-- The row-major positions of a matrix that reduce to row `n` are the row's columns in order. -/
theorem fiber_row {R C : Nat} (h : (⟨2, ![R, C]⟩ : Shape).ReducesTo [1] ⟨1, ![R]⟩) (n : Fin R) :
    (List.finRange (⟨2, ![R, C]⟩ : Shape).numel).filter (fun p => h.drop ((⟨2, ![R, C]⟩ : Shape).rowMajor.symm p) = ix1 n)
      = (List.finRange C).map fun k => (⟨2, ![R, C]⟩ : Shape).rowMajor (ix2 n k) := by
  have hd : ∀ i : (⟨2, ![R, C]⟩ : Shape).Idx, (h.drop i 0).val = (i 0).val := fun _ => rfl
  refine List.Perm.eq_of_pairwise (le := (· < ·)) (fun a b _ _ h₁ h₂ => absurd h₁ (lt_asymm h₂)) ?_ ?_ ?_
  · exact (List.pairwise_lt_finRange _).filter _
  · rw [List.pairwise_map]
    refine (List.pairwise_lt_finRange C).imp fun {a b} hab => ?_
    rw [Fin.lt_def, Shape.rowMajor_val_two, Shape.rowMajor_val_two]
    exact Nat.add_lt_add_left hab _
  · refine (List.perm_ext_iff_of_nodup ((List.nodup_finRange _).filter _) ((List.nodup_finRange C).map ?_)).2 fun p => ?_
    · exact fun a b hab => congrFun ((⟨2, ![R, C]⟩ : Shape).rowMajor.injective hab) 1
    · simp only [List.mem_filter, List.mem_finRange, true_and, decide_eq_true_eq, List.mem_map]
      constructor
      · intro hp
        refine ⟨(⟨2, ![R, C]⟩ : Shape).rowMajor.symm p 1, ?_⟩
        rw [← Equiv.eq_symm_apply]
        funext c
        refine Fin.cases ?_ (fun c => Fin.cases ?_ (fun c => c.elim0) c) c
        · refine Fin.ext ?_
          exact (congrArg (fun j => (j 0).val) hp).symm.trans (hd _)
        · rfl
      · rintro ⟨k, rfl⟩
        rw [Equiv.symm_apply_apply]
        funext c
        refine Fin.cases ?_ (fun c => c.elim0) c
        exact Fin.ext (hd _)

/-- A two-operand reduction of a matrix over its columns, at row `n`: the fold along the row. -/
theorem reduce2_row {R C : Nat} {u : Shape} {α β : Type} (f : α × β → α × β → α × β) (x : (⟨2, ![R, C]⟩ : Shape).Idx → α)
    (y : (⟨2, ![R, C]⟩ : Shape).Idx → β) (a : u.Idx → α) (b : u.Idx → β)
    (h : (⟨2, ![R, C]⟩ : Shape).ReducesTo [1] ⟨1, ![R]⟩) (hu : 0 < u.numel) (n : Fin R) :
    Host.reduce2 f x y a b h hu (ix1 n)
      = ((List.finRange C).map fun k => (x (ix2 n k), y (ix2 n k))).foldl f (a (Shape.Idx.first hu), b (Shape.Idx.first hu)) := by
  rw [Host.reduce2_eq_foldl_fiber, Host.argReduceFiber, fiber_row, List.map_map]
  simp only [Function.comp_def, Equiv.symm_apply_apply]

/-- The arg-min of a matrix over its columns, at row `n`: the row's first minimum's column. -/
theorem argReduce_row {R C : Nat} {u : Shape} (hC : 0 < C) (hC' : C ≤ 8192)
    (f : EReal × BitVec 32 → EReal × BitVec 32 → EReal × BitVec 32)
    (hf : ∀ a b, f a b = (if a.1 < b.1 then a.1 else b.1, if a.1 < b.1 ∨ (a.1 = b.1 ∧ a.2.toInt < b.2.toInt) then a.2 else b.2))
    (x : FVec Ideal ⟨2, ![R, C]⟩ .f32) (y : (⟨2, ![R, C]⟩ : Shape).Idx → BitVec 32) (a : FVec Ideal u .f32) (b : u.Idx → BitVec 32)
    (h : (⟨2, ![R, C]⟩ : Shape).ReducesTo [1] ⟨1, ![R]⟩) (hu : 0 < u.numel) (n : Fin R)
    (hy : ∀ k : Fin C, y (ix2 n k) = BitVec.ofNat 32 k.val) (ha : ∀ i, a i = (⊤ : EReal)) (hb : ∀ i, b i = 0#32) :
    ∃ k : Fin C, FirstMin (fun j => x (ix2 n j)) k
      ∧ (Host.argReduce (F := Ideal) (φ := .f32) f x y a b h hu (ix1 n)).2 = BitVec.ofNat 32 k.val := by
  obtain ⟨N, rfl⟩ : ∃ N, C = N + 1 := ⟨C - 1, by omega⟩
  obtain ⟨k, hk, e⟩ := foldl_pick f hf N (by omega) fun j => x (ix2 n j)
  refine ⟨k, hk, ?_⟩
  rw [Ideal.argReduce_eq_reduce2, reduce2_row]
  simp only [hy, ha, hb]
  exact congrArg Prod.snd e

theorem top_word : Ideal.ofBits .f32 0x7F800000#32 = (⊤ : EReal) := by simp [Ideal.ofBits, Ideal.ieee]

/-- The index array as a function of its position. -/
theorem refIdx_eq (d : FVec Ideal S65536x8192 .f32) :
    refIdx d = fun j => (Host.argReduce reducer_argmin_f32_i32 d (iotaInDim S65536x8192 32 1) (constant S_ .f32 0x7F800000#32)
      (constantI S_ 32 0#32) reducesTo_S65536x8192_S65536_d1 h_S_ j).2 := rfl

theorem refIdx_apply (d : FVec Ideal S65536x8192 .f32) (n : Fin 65536) :
    refIdx d (ix1 n) = BitVec.ofNat 32 (firstMin fun j : Fin 8192 => d (ix2 n j)).val := by
  have ht : ∀ i, (constant S_ .f32 0x7F800000#32 : FVec Ideal S_ .f32) i = (⊤ : EReal) := fun _ => top_word
  obtain ⟨k, hk, e⟩ := argReduce_row (by decide) (by decide) (reducer_argmin_f32_i32 (F := Ideal)) reducer_step d
    (iotaInDim S65536x8192 32 1) (constant S_ .f32 0x7F800000#32) (constantI S_ 32 0#32) reducesTo_S65536x8192_S65536_d1 h_S_ n
    (fun _ => rfl) ht (fun _ => rfl)
  rw [hk.eq_firstMin]
  exact (congrFun (refIdx_eq d) (ix1 n)).trans e

end Cert.Proof.Ref
end
-- ==== Proof.RefValue.lean ====
/-
  The reference's composed terms, read token by token: each is the row function of `Spec` over the token's latents.
-/
module

public import proofs.«01_k».proof.Proof.RefRun
public import proofs.«01_k».proof.Proof.Spec
public import proofs.«01_k».proof.Proof.RefArgmin
public import Idealize.ShloMosaic.Lib.Pointwise

@[expose] public section

set_option maxRecDepth 16384

noncomputable section

namespace Cert.Proof.Ref

open Idealize.ShloMosaic Idealize.ShloMosaic.TcCoe Idealize.SL.Sem
open Cert.ReferenceIdeal Cert.ReferenceIdeal.Gen

/-! ## The arrays at an index -/

section
variable (X : FVec Ideal S64x1024x384 .f32) (W : FVec Ideal S384x32 .f32) (b : FVec Ideal S32 .f32) (E : FVec Ideal S8192x32 .f32)

/-- Token (a, t)'s encoder output, over the argument arrays. -/
def tokZ (a : Fin 64) (t : Fin 1024) : Fin 32 → EReal :=
  rowZ (fun k => X (ix3 a t k)) (fun k c => W (ix2 k c)) (fun c => b (ix1 c))
/-- The codebook by row and column. -/
def tokE : Fin 8192 → Fin 32 → EReal := fun j c => E (ix2 j c)

theorem refZ_apply (a : Fin 64) (t : Fin 1024) (c : Fin 32) : refZ X W b (ix3 a t c) = tokZ X W b a t c := by
  pointwise [refZ, tokZ, rowZ]

theorem resD_apply (n : Fin 65536) (j : Fin 8192) :
    resD X W b E (ix2 n j) = rowD (tokZ X W b ⟨n.val / 1024, by omega⟩ ⟨n.val % 1024, by omega⟩) (tokE E) j := by
  pointwise [resD, refDist]
  simp only [refZ_apply]
  rfl

theorem resI_apply (n : Fin 65536) :
    resI (F := Ideal) X W b E (ix1 n) = rowI (tokZ X W b ⟨n.val / 1024, by omega⟩ ⟨n.val % 1024, by omega⟩) (tokE E) := by
  rw [resI, refIdx_apply]
  exact congrArg (fun d => BitVec.ofNat 32 (firstMin d).val) (funext fun j => resD_apply X W b E n j)

theorem cast_idx (i : IVec S65536 32) (a : Fin 64) (t : Fin 1024) :
    shapeCast S64x1024 i shapeCasts_S65536_S64x1024 (ix2 a t) = i (ix1 ⟨a.val * 1024 + t.val, by omega⟩) := by
  pointwise []

/-- Token (a, t)'s flat position splits back into (a, t). -/
theorem tokZ_flat (a : Fin 64) (t : Fin 1024) (h₁ h₂) :
    tokZ X W b ⟨(a.val * 1024 + t.val) / 1024, h₁⟩ ⟨(a.val * 1024 + t.val) % 1024, h₂⟩ = tokZ X W b a t := by
  congr 1 <;> exact Fin.ext (by simp only []; omega)

theorem resIdx_apply (a : Fin 64) (t : Fin 1024) :
    resIdx (F := Ideal) X W b E (ix2 a t) = rowI (tokZ X W b a t) (tokE E) := by
  rw [resIdx, cast_idx, resI_apply]
  exact congrArg (fun z => rowI z (tokE E)) (tokZ_flat X W b a t _ _)

theorem refHot_apply (i : IVec S65536 32) (n : Fin 65536) (j : Fin 8192) :
    refHot (F := Ideal) i (ix2 n j) = hot (BitVec.ofNat 32 j.val) (i (ix1 n)) := by
  pointwise [refHot]
  exact hot_unsigned _ _

theorem refQ_apply (h : FVec Ideal S65536x8192 .f32) (a : Fin 64) (t : Fin 1024) (c : Fin 32) :
    refQ h E (ix3 a t c) = ∑ j : Fin 8192, h (ix2 ⟨a.val * 1024 + t.val, by omega⟩ j) * E (ix2 j c) := by
  pointwise [refQ]

theorem resQ_apply (a : Fin 64) (t : Fin 1024) (c : Fin 32) :
    resQ X W b E (ix3 a t c) = rowQ (tokZ X W b a t) (tokE E) c := by
  rw [resQ, refQ_apply]
  refine Finset.sum_congr rfl fun j _ => ?_
  rw [refHot_apply, resI_apply, tokZ_flat]
  rfl

theorem resQst_apply (a : Fin 64) (t : Fin 1024) (c : Fin 32) :
    resQst X W b E (ix3 a t c) = rowS (tokZ X W b a t) (tokE E) c := by
  show refZ X W b (ix3 a t c) + (resQ X W b E (ix3 a t c) - refZ X W b (ix3 a t c)) = _
  rw [refZ_apply, resQ_apply]
  rfl

/-- The squared errors of all tokens, added up. -/
def errSum : EReal := ∑ a : Fin 64, ∑ t : Fin 1024, rowErr (tokZ X W b a t) (tokE E)

theorem refMean_apply (d : FVec Ideal S64x1024x32 .f32) (k : S_.Idx) :
    refMean d k = Ideal.div (∑ a : Fin 64, ∑ t : Fin 1024, ∑ c : Fin 32, d (ix3 a t c) * d (ix3 a t c))
      (Ideal.ofBits FTy.f32 1241513984#32) := by
  pointwise [refMean]

theorem mean_qz (k : S_.Idx) : refMean (subf (resQ X W b E) (refZ X W b)) k
    = Ideal.div (errSum X W b E) (Ideal.ofBits FTy.f32 1241513984#32) := by
  rw [refMean_apply]
  refine congrArg (fun s => Ideal.div s _) ?_
  refine Finset.sum_congr rfl fun a _ => Finset.sum_congr rfl fun t _ => Finset.sum_congr rfl fun c _ => ?_
  show (resQ X W b E (ix3 a t c) - refZ X W b (ix3 a t c)) * (resQ X W b E (ix3 a t c) - refZ X W b (ix3 a t c)) = _
  rw [refZ_apply, resQ_apply]

theorem mean_zq (k : S_.Idx) : refMean (subf (refZ X W b) (resQ X W b E)) k
    = Ideal.div (errSum X W b E) (Ideal.ofBits FTy.f32 1241513984#32) := by
  rw [refMean_apply]
  refine congrArg (fun s => Ideal.div s _) ?_
  refine Finset.sum_congr rfl fun a _ => Finset.sum_congr rfl fun t _ => Finset.sum_congr rfl fun c _ => ?_
  show (refZ X W b (ix3 a t c) - resQ X W b E (ix3 a t c)) * (refZ X W b (ix3 a t c) - resQ X W b E (ix3 a t c)) = _
  rw [refZ_apply, resQ_apply]
  exact sub_sq_comm _ _

theorem resLoss_apply (k : S_.Idx) : resLoss X W b E k
    = Ideal.div (errSum X W b E) (Ideal.ofBits FTy.f32 1241513984#32)
      + Ideal.ofBits FTy.f32 1048576000#32 * Ideal.div (errSum X W b E) (Ideal.ofBits FTy.f32 1241513984#32) := by
  show refMean (subf (resQ X W b E) (refZ X W b)) k
      + Ideal.ofBits FTy.f32 0x3E800000#32 * refMean (subf (refZ X W b) (resQ X W b E)) k = _
  rw [mean_qz, mean_zq]
end

end Cert.Proof.Ref
end
-- ==== Proof.Equation.lean ====
/-
  The equation: the kernel's four results are the reference's, from the same arguments.
-/
module

public import proofs.«01_k».proof.Proof.KernelRun
public import proofs.«01_k».proof.Proof.RefValue

@[expose] public section

set_option maxRecDepth 16384

noncomputable section

namespace Cert.Proof.Ker

open Idealize.ShloMosaic Idealize.ShloMosaic.TcCoe Idealize.SL.Sem
open Cert.KernelIdeal Cert.KernelIdeal.Gen

section
variable (f : FVec Ideal S65536x32 .f32) (i : IVec S65536 32)

theorem cast_rows (a : Fin 64) (t : Fin 1024) (j : Fin 32) :
    shapeCast S64x1024x32 f shapeCasts_S65536x32_S64x1024x32 (ix3 a t j) = f (ix2 ⟨a.val * 1024 + t.val, by omega⟩ j) := by
  pointwise []

theorem cast_words (a : Fin 64) (t : Fin 1024) :
    shapeCast S64x1024 i shapeCasts_S65536_S64x1024 (ix2 a t) = i (ix1 ⟨a.val * 1024 + t.val, by omega⟩) := by
  pointwise []
end

variable (m : (ℓ : Loc nD τ sig) → Buf (Elt Ideal) ℓ) (c : Dev nD)

/-- Token (a, t), at its flat position. -/
theorem flatZ_tok (a : Fin 64) (t : Fin 1024) (hn : a.val * 1024 + t.val < 65536) :
    flatZ m c ⟨a.val * 1024 + t.val, hn⟩ = Ref.tokZ (lat m c) (wgt m c) (bias m c) a t :=
  Ref.tokZ_flat (lat m c) (wgt m c) (bias m c) a t (by omega) (by omega)

theorem kerS_eq : kerS m c = Ref.resQst (lat m c) (wgt m c) (bias m c) (emb m c) := by
  funext i
  idx_vars i
  refine (cast_rows _ i0 i1 i2).trans (Eq.trans ?_ (Ref.resQst_apply _ _ _ _ i0 i1 i2).symm)
  exact congrArg (fun z => rowS z (codes m c) i2) (flatZ_tok m c i0 i1 _)

theorem kerZ_eq : kerZ m c = Ref.refZ (lat m c) (wgt m c) (bias m c) := by
  funext i
  idx_vars i
  refine (cast_rows _ i0 i1 i2).trans (Eq.trans ?_ (Ref.refZ_apply _ _ _ i0 i1 i2).symm)
  exact congrFun (flatZ_tok m c i0 i1 _) i2

theorem kerI_eq : kerI m c = Ref.resIdx (F := Ideal) (lat m c) (wgt m c) (bias m c) (emb m c) := by
  funext i
  idx_vars i
  refine (cast_words _ i0 i1).trans (Eq.trans ?_ (Ref.resIdx_apply _ _ _ _ i0 i1).symm)
  exact congrArg (fun z => rowI z (codes m c)) (flatZ_tok m c i0 i1 _)

/-- The points' sums are the tokens' sum, whichever way the tokens are tiled. -/
theorem parts_eq : ∑ t : Fin cfg0.N, part m c t = Ref.errSum (lat m c) (wgt m c) (bias m c) (emb m c) := by
  let g : Fin 65536 → EReal := fun n => rowErr (flatZ m c n) (codes m c)
  have h₁ : ∑ n : Fin 65536, g n = ∑ t : Fin 256, ∑ r : Fin 256, g ⟨t.val * 256 + r.val, by omega⟩ :=
    Fin.sum_univ_tiles 256 256 rfl g
  have h₂ : ∑ n : Fin 65536, g n = ∑ a : Fin 64, ∑ t : Fin 1024, g ⟨a.val * 1024 + t.val, by omega⟩ :=
    Fin.sum_univ_tiles 64 1024 rfl g
  have h₃ : ∑ t : Fin cfg0.N, part m c t = ∑ t : Fin 256, ∑ r : Fin 256, g ⟨t.val * 256 + r.val, by omega⟩ :=
    Fintype.sum_equiv (finCongr N_0) _ _ fun t => rfl
  rw [h₃, ← h₁, h₂]
  exact Finset.sum_congr rfl fun a _ => Finset.sum_congr rfl fun t _ =>
    congrArg (fun z => rowErr z (codes m c)) (flatZ_tok m c a t _)

theorem kerMean_apply (k : S_.Idx) : kerMean m c k
    = Ideal.div (Ref.errSum (lat m c) (wgt m c) (bias m c) (emb m c)) (Ideal.ofBits FTy.f32 1241513984#32) := by
  rw [← parts_eq]
  rfl

theorem kerL_eq : kerL m c = Ref.resLoss (lat m c) (wgt m c) (bias m c) (emb m c) := by
  funext k
  rw [Ref.resLoss_apply]
  show kerMean m c k + Ideal.ofBits FTy.f32 0x3E800000#32 * kerMean m c k = _
  rw [kerMean_apply]

end Cert.Proof.Ker
end
-- ==== Proof.lean ====
/-
  The five claims: the frames of the kernel and its idealization, the reference's, the idealization's (no operation was
  rewritten), and the kernel's results equal to the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

-- The frames also say that every semaphore counter ends at zero.

namespace Cert.Proof

open Idealize.ShloMosaic Idealize.SL.Sem Cert.Kernel

/-- The reference's frame: its run without the results. -/
theorem reference_frame [Cert.ReferenceIdeal.Facts] : Cert.quiescent_ReferenceIdeal := fun m g _ =>
  θ_run_mono (Ref.run (F := Ideal) m g) fun _ h => ⟨fun c => (h.1 c).2.2.2.2, h.2⟩

/-- The kernel's four results are the reference's. -/
theorem results_agree [Cert.KernelIdeal.Facts] [Cert.ReferenceIdeal.Facts] : Cert.algebraic_KernelIdeal_ReferenceIdeal := by
  intro m g m' g' _ hargs
  refine ⟨Ker.kerS m, Ker.kerL m, Ker.kerI m, Ker.kerZ m, Ker.run m g, ?_⟩
  refine θ_run_mono (Ref.run (F := Ideal) m' g') fun r h c => ?_
  obtain ⟨hs, hl, hi, hz, hrest⟩ := h.1 c
  obtain ⟨a0, a1, a2, a3⟩ := hargs c
  refine ⟨hs.trans ?_, hl.trans ?_, hi.trans ?_, hz.trans ?_, hrest⟩
  · rw [a0, a1, a2, a3]; exact (Ker.kerS_eq m c).symm
  · rw [a0, a1, a2, a3]; exact (Ker.kerL_eq m c).symm
  · rw [a0, a1, a2, a3]; exact (Ker.kerI_eq m c).symm
  · rw [a0, a1, a2]; exact (Ker.kerZ_eq m c).symm

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, results_agree⟩

end Cert.Proof

end
